-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v58)) (v3 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_v60) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v439) = v0 c
          ∧ r.2.mem ((c.tc : Thread Cert.ReferenceIdeal.nD Cert.ReferenceIdeal.τ).loc Cert.ReferenceIdeal.main_v436) = v1 c
          ∧ r.2.mem ((c.tc : Thread Cert.ReferenceIdeal.nD Cert.ReferenceIdeal.τ).loc Cert.ReferenceIdeal.main_v440) = v2 c
          ∧ r.2.mem ((c.tc : Thread Cert.ReferenceIdeal.nD Cert.ReferenceIdeal.τ).loc Cert.ReferenceIdeal.main_v441) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S8x576x256 : Shape := ⟨3, ![8, 576, 256]⟩
abbrev S8x1024x256 : Shape := ⟨3, ![8, 1024, 256]⟩
abbrev S4608x256 : Shape := ⟨2, ![4608, 256]⟩
abbrev S1x1024x256 : Shape := ⟨3, ![1, 1024, 256]⟩
abbrev S1024x256 : Shape := ⟨2, ![1024, 256]⟩
abbrev S_ : Shape := ⟨0, ![]⟩
abbrev S4608 : Shape := ⟨1, ![4608]⟩
abbrev S4608x1 : Shape := ⟨2, ![4608, 1]⟩
abbrev S256x1024 : Shape := ⟨2, ![256, 1024]⟩
abbrev S4608x1024 : Shape := ⟨2, ![4608, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

class Facts : Prop where
  shapeCasts_S8x576x256_S4608x256 : S8x576x256.ShapeCasts S4608x256
  slices_S8x1024x256_S1x1024x256_0_0_0 : S8x1024x256.Slices ![0, 0, 0] S1x1024x256
  shapeCasts_S1x1024x256_S1024x256 : S1x1024x256.ShapeCasts S1024x256
  reducesTo_S4608x256_S4608_d1 : S4608x256.ReducesTo [1] S4608
  h_S_ : 0 < S_.numel
  bcast_S4608_S4608x1_0 : S4608.BroadcastsInDim S4608x1 (![0] : Fin 1 → Fin S4608x1.rank)
  transposes_S1024x256_S256x1024_1_0 : S1024x256.Transposes [1, 0] S256x1024
  bcast_S_S4608x1024 : S_.BroadcastsInDim S4608x1024 (![] : Fin 0 → Fin S4608x1024.rank)
  bcast_S4608x1_S4608x1024_0_1 : S4608x1.BroadcastsInDim S4608x1024 (![0, 1] : Fin 2 → Fin S4608x1024.rank)
  reducesTo_S1024x256_S1024_d1 : S1024x256.ReducesTo [1] S1024
  bcast_S1024_S1x1024_1 : S1024.BroadcastsInDim S1x1024 (![1] : Fin 1 → Fin S1x1024.rank)
  bcast_S1x1024_S4608x1024_0_1 : S1x1024.BroadcastsInDim S4608x1024 (![0, 1] : Fin 2 → Fin S4608x1024.rank)
  reducesTo_S4608x1024_S4608_d1 : S4608x1024.ReducesTo [1] S4608
  natLt_1_32 : 1 < 32
  bcast_S_S4608 : S_.BroadcastsInDim S4608 (![] : Fin 0 → Fin S4608.rank)
  reducesTo_S4608_S_d0 : S4608.ReducesTo [0] S_
  bcast_S_S4608x1 : S_.BroadcastsInDim S4608x1 (![] : Fin 0 → Fin S4608x1.rank)
  bcast_S1_S1x1_1 : S1.BroadcastsInDim S1x1 (![1] : Fin 1 → Fin S1x1.rank)
  bcast_S1x1_S4608x1_0_1 : S1x1.BroadcastsInDim S4608x1 (![0, 1] : Fin 2 → Fin S4608x1.rank)
  reducesTo_S4608x1_S4608_d1 : S4608x1.ReducesTo [1] S4608
  bcast_S4608_S4608x256_0 : S4608.BroadcastsInDim S4608x256 (![0] : Fin 1 → Fin S4608x256.rank)
  bcast_S_S4608x256 : S_.BroadcastsInDim S4608x256 (![] : Fin 0 → Fin S4608x256.rank)
  slices_S8x1024x256_S1x1024x256_1_0_0 : S8x1024x256.Slices ![1, 0, 0] S1x1024x256
  slices_S8x1024x256_S1x1024x256_2_0_0 : S8x1024x256.Slices ![2, 0, 0] S1x1024x256
  slices_S8x1024x256_S1x1024x256_3_0_0 : S8x1024x256.Slices ![3, 0, 0] S1x1024x256
  slices_S8x1024x256_S1x1024x256_4_0_0 : S8x1024x256.Slices ![4, 0, 0] S1x1024x256
  slices_S8x1024x256_S1x1024x256_5_0_0 : S8x1024x256.Slices ![5, 0, 0] S1x1024x256
  slices_S8x1024x256_S1x1024x256_6_0_0 : S8x1024x256.Slices ![6, 0, 0] S1x1024x256
  slices_S8x1024x256_S1x1024x256_7_0_0 : S8x1024x256.Slices ![7, 0, 0] S1x1024x256
  dot_S4608x256_S256x1024_S4608x1024_1_0_0_1_n_n_wf : DotDims.WF S4608x256 S256x1024 S4608x1024 [1] [0] [0] [1] [] []
  gather_S1024x256_S4608x1_S4608x256_1_0_n_n_0_1_1256_wf : GatherDims.WF S1024x256 S4608x1 S4608x256 [1] [0] [] [0] [] 1 ![1, 256]

variable [Facts]

variable {F : FTy → Type} [FloatOps F]
def dot_S4608x256_S256x1024_S4608x1024_1_0_0_1_n_n : DotDims S4608x256 S256x1024 S4608x1024 where
  lhsContracting := [1]
  rhsContracting := [0]
  lhsNonContracting := [0]
  rhsNonContracting := [1]
  lhsBatch := []
  rhsBatch := []
  wf := dot_S4608x256_S256x1024_S4608x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1024x256_S4608x1_S4608x256_1_0_n_n_0_1_1256 : GatherDims S1024x256 S4608x1 S4608x256 where
  offsetDims := [1]
  collapsedSliceDims := [0]
  operandBatchingDims := []
  startIndicesBatchingDims := []
  startIndexMap := [0]
  indexVectorDim := 1
  sliceSizes := ![1, 256]
  wf := gather_S1024x256_S4608x1_S4608x256_1_0_n_n_0_1_1256_wf

def fn_argmin {F : FTy → Type} [FloatOps F] (arg0 : FVec F S4608x1024 .f32) : IVec S4608 32 :=
  let v0 : IVec S4608x1024 32 := iotaInDim S4608x1024 32 1
  let cst : FVec F S_ .f32 := constant S_ .f32 0x7F800000#32
  let c : IVec S_ 32 := constantI S_ 32 0#32
  let v1_0 : FVec F S4608 .f32 := (fun x y u v j => (Host.argReduce reducer_argmin_f32_i32 x y u v reducesTo_S4608x1024_S4608_d1 h_S_ j).1) arg0 v0 cst c
  let v1_1 : IVec S4608 32 := (fun x y u v j => (Host.argReduce reducer_argmin_f32_i32 x y u v reducesTo_S4608x1024_S4608_d1 h_S_ j).2) arg0 v0 cst c
  v1_1

def fn_where {F : FTy → Type} [FloatOps F] (arg0 : IVec S4608 1) (arg1 : IVec S4608 32) (arg2 : IVec S4608 32) : IVec S4608 32 :=
  let v0 : IVec S4608 32 := select arg0 arg1 arg2
  v0

def fn_take {F : FTy → Type} [FloatOps F] (arg0 : FVec F S1024x256 .f32) (arg1 : IVec S4608 32) : FVec F S4608x256 .f32 :=
  let c : IVec S_ 32 := constantI S_ 32 0#32
  let v0 : IVec S4608 32 := broadcastInDim S4608 ![] bcast_S_S4608 c
  let v1 : IVec S4608 1 := cmpi .slt arg1 v0
  let c_0 : IVec S_ 32 := constantI S_ 32 1024#32
  let v2 : IVec S4608 32 := broadcastInDim S4608 ![] bcast_S_S4608 c_0
  let v3 : IVec S4608 32 := addi arg1 v2
  let v4 : IVec S4608 32 := fn_where (F := F) v1 v3 arg1
  let v5 : IVec S4608x1 32 := broadcastInDim S4608x1 ![0] bcast_S4608_S4608x1_0 v4
  let c_1 : IVec S1 32 := constantI S1 32 1023#32
  let c_2 : IVec S_ 32 := constantI S_ 32 0#32
  let v6 : IVec S4608x1 32 := broadcastInDim S4608x1 ![] bcast_S_S4608x1 c_2
  let v7 : IVec S4608x1 1 := cmpi .sge v5 v6
  let v8 : IVec S1x1 32 := broadcastInDim S1x1 ![1] bcast_S1_S1x1_1 c_1
  let v9 : IVec S4608x1 32 := broadcastInDim S4608x1 ![0, 1] bcast_S1x1_S4608x1_0_1 v8
  let v10 : IVec S4608x1 1 := cmpi .sle v5 v9
  let v11 : IVec S4608x1 1 := andi v7 v10
  let c_3 : IVec S_ 1 := constantI S_ 1 1#1
  let v12 : IVec S4608 1 := (fun x v => Host.reduce IntOp.andi x v reducesTo_S4608x1_S4608_d1 h_S_) v11 c_3
  let v13 : FVec F S4608x256 .f32 := (fun x i => Host.gather gather_S1024x256_S4608x1_S4608x256_1_0_n_n_0_1_1256 x i) arg0 v5
  let v14 : IVec S4608x256 1 := broadcastInDim S4608x256 ![0] bcast_S4608_S4608x256_0 v12
  let cst : FVec F S_ .f32 := constant S_ .f32 0x7FC00000#32
  let v15 : FVec F S4608x256 .f32 := broadcastInDim S4608x256 ![] bcast_S_S4608x256 cst
  let v16 : FVec F S4608x256 .f32 := select v14 v13 v15
  v16

def fn_part12 {F : FTy → Type} [FloatOps F] (main_v204 : FVec F S4608x256 .f32) (main_v206 : FVec F S1024x256 .f32) (main_v220 : FVec F S4608x1024 .f32) (main_v230 : IVec S_ 1) : IVec S_ 1 :=
  let main_v231 : IVec S4608 32 := fn_argmin (F := F) main_v220
  let main_v232 : FVec F S4608x256 .f32 := fn_take (F := F) main_v206 main_v231
  let main_v233 : FVec F S4608x256 .f32 := subf main_v204 main_v232
  main_v230

def fn_part11 {F : FTy → Type} [FloatOps F] (main_v201 : IVec S_ 1) (main_v204 : FVec F S4608x256 .f32) (main_v206 : FVec F S1024x256 .f32) (main_v209 : FVec F S4608x1 .f32) (main_v211 : FVec F S4608x1024 .f32) (main_cst_49 : FVec F S_ .f32) : IVec S_ 1 :=
  let main_v212 : FVec F S4608x1024 .f32 := broadcastInDim S4608x1024 ![] bcast_S_S4608x1024 main_cst_49
  let main_v213 : FVec F S4608x1024 .f32 := mulf main_v212 main_v211
  let main_v214 : FVec F S4608x1024 .f32 := broadcastInDim S4608x1024 ![0, 1] bcast_S4608x1_S4608x1024_0_1 main_v209
  let main_v215 : FVec F S4608x1024 .f32 := subf main_v214 main_v213
  let main_v216 : FVec F S1024x256 .f32 := mulf main_v206 main_v206
  let main_cst_50 : FVec F S_ .f32 := constant S_ .f32 0x00000000#32
  let main_v217 : FVec F S1024 .f32 := (fun x v => Host.reduceAdd x v reducesTo_S1024x256_S1024_d1 h_S_) main_v216 main_cst_50
  let main_v218 : FVec F S1x1024 .f32 := broadcastInDim S1x1024 ![1] bcast_S1024_S1x1024_1 main_v217
  let main_v219 : FVec F S4608x1024 .f32 := broadcastInDim S4608x1024 ![0, 1] bcast_S1x1024_S4608x1024_0_1 main_v218
  let main_v220 : FVec F S4608x1024 .f32 := addf main_v215 main_v219
  let main_cst_51 : FVec F S_ .f32 := constant S_ .f32 0x7F800000#32
  let main_v221 : FVec F S4608 .f32 := (fun x v => Host.reduce FloatOps.minimumf x v reducesTo_S4608x1024_S4608_d1 h_S_) main_v220 main_cst_51
  let main_v222 : FVec F S4608x1 .f32 := broadcastInDim S4608x1 ![0] bcast_S4608_S4608x1_0 main_v221
  let main_v223 : FVec F S4608x1024 .f32 := broadcastInDim S4608x1024 ![0, 1] bcast_S4608x1_S4608x1024_0_1 main_v222
  let main_v224 : IVec S4608x1024 1 := cmpf .oeq main_v220 main_v223
  let main_v225 : IVec S4608x1024 32 := (extui 32 · natLt_1_32) main_v224
  let main_c_52 : IVec S_ 32 := constantI S_ 32 0#32
  let main_v226 : IVec S4608 32 := (fun x v => Host.reduce IntOp.addi x v reducesTo_S4608x1024_S4608_d1 h_S_) main_v225 main_c_52
  let main_c_53 : IVec S_ 32 := constantI S_ 32 1#32
  let main_v227 : IVec S4608 32 := broadcastInDim S4608 ![] bcast_S_S4608 main_c_53
  let main_v228 : IVec S4608 1 := cmpi .eq main_v226 main_v227
  let main_c_54 : IVec S_ 1 := constantI S_ 1 1#1
  let main_v229 : IVec S_ 1 := (fun x v => Host.reduce IntOp.andi x v reducesTo_S4608_S_d0 h_S_) main_v228 main_c_54
  let main_v230 : IVec S_ 1 := andi main_v201 main_v229
  fn_part12 (F := F) main_v204 main_v206 main_v220 main_v230

def fn_part10 {F : FTy → Type} [FloatOps F] (main_v0 : FVec F S8x1024x256 .f32) (main_v172 : IVec S_ 1) (main_v175 : FVec F S4608x256 .f32) (main_v177 : FVec F S1024x256 .f32) (main_v191 : FVec F S4608x1024 .f32) (main_v192 : FVec F S4608 .f32) : IVec S_ 1 :=
  let main_v193 : FVec F S4608x1 .f32 := broadcastInDim S4608x1 ![0] bcast_S4608_S4608x1_0 main_v192
  let main_v194 : FVec F S4608x1024 .f32 := broadcastInDim S4608x1024 ![0, 1] bcast_S4608x1_S4608x1024_0_1 main_v193
  let main_v195 : IVec S4608x1024 1 := cmpf .oeq main_v191 main_v194
  let main_v196 : IVec S4608x1024 32 := (extui 32 · natLt_1_32) main_v195
  let main_c_45 : IVec S_ 32 := constantI S_ 32 0#32
  let main_v197 : IVec S4608 32 := (fun x v => Host.reduce IntOp.addi x v reducesTo_S4608x1024_S4608_d1 h_S_) main_v196 main_c_45
  let main_c_46 : IVec S_ 32 := constantI S_ 32 1#32
  let main_v198 : IVec S4608 32 := broadcastInDim S4608 ![] bcast_S_S4608 main_c_46
  let main_v199 : IVec S4608 1 := cmpi .eq main_v197 main_v198
  let main_c_47 : IVec S_ 1 := constantI S_ 1 1#1
  let main_v200 : IVec S_ 1 := (fun x v => Host.reduce IntOp.andi x v reducesTo_S4608_S_d0 h_S_) main_v199 main_c_47
  let main_v201 : IVec S_ 1 := andi main_v172 main_v200
  let main_v202 : IVec S4608 32 := fn_argmin (F := F) main_v191
  let main_v203 : FVec F S4608x256 .f32 := fn_take (F := F) main_v177 main_v202
  let main_v204 : FVec F S4608x256 .f32 := subf main_v175 main_v203
  let main_v205 : FVec F S1x1024x256 .f32 := (extractStridedSlice S1x1024x256 ![7, 0, 0] · slices_S8x1024x256_S1x1024x256_7_0_0) main_v0
  let main_v206 : FVec F S1024x256 .f32 := shapeCast S1024x256 main_v205 shapeCasts_S1x1024x256_S1024x256
  let main_v207 : FVec F S4608x256 .f32 := mulf main_v204 main_v204
  let main_cst_48 : FVec F S_ .f32 := constant S_ .f32 0x00000000#32
  let main_v208 : FVec F S4608 .f32 := (fun x v => Host.reduceAdd x v reducesTo_S4608x256_S4608_d1 h_S_) main_v207 main_cst_48
  let main_v209 : FVec F S4608x1 .f32 := broadcastInDim S4608x1 ![0] bcast_S4608_S4608x1_0 main_v208
  let main_v210 : FVec F S256x1024 .f32 := (transpose S256x1024 [1, 0] · transposes_S1024x256_S256x1024_1_0) main_v206
  let main_v211 : FVec F S4608x1024 .f32 := (fun l r => Host.dotGeneral dot_S4608x256_S256x1024_S4608x1024_1_0_0_1_n_n none l r) main_v204 main_v210
  let main_cst_49 : FVec F S_ .f32 := constant S_ .f32 0x40000000#32
  fn_part11 (F := F) main_v201 main_v204 main_v206 main_v209 main_v211 main_cst_49

def fn_part9 {F : FTy → Type} [FloatOps F] (main_v0 : FVec F S8x1024x256 .f32) (main_v146 : FVec F S4608x256 .f32) (main_v148 : FVec F S1024x256 .f32) (main_v162 : FVec F S4608x1024 .f32) (main_v172 : IVec S_ 1) : IVec S_ 1 :=
  let main_v173 : IVec S4608 32 := fn_argmin (F := F) main_v162
  let main_v174 : FVec F S4608x256 .f32 := fn_take (F := F) main_v148 main_v173
  let main_v175 : FVec F S4608x256 .f32 := subf main_v146 main_v174
  let main_v176 : FVec F S1x1024x256 .f32 := (extractStridedSlice S1x1024x256 ![6, 0, 0] · slices_S8x1024x256_S1x1024x256_6_0_0) main_v0
  let main_v177 : FVec F S1024x256 .f32 := shapeCast S1024x256 main_v176 shapeCasts_S1x1024x256_S1024x256
  let main_v178 : FVec F S4608x256 .f32 := mulf main_v175 main_v175
  let main_cst_41 : FVec F S_ .f32 := constant S_ .f32 0x00000000#32
  let main_v179 : FVec F S4608 .f32 := (fun x v => Host.reduceAdd x v reducesTo_S4608x256_S4608_d1 h_S_) main_v178 main_cst_41
  let main_v180 : FVec F S4608x1 .f32 := broadcastInDim S4608x1 ![0] bcast_S4608_S4608x1_0 main_v179
  let main_v181 : FVec F S256x1024 .f32 := (transpose S256x1024 [1, 0] · transposes_S1024x256_S256x1024_1_0) main_v177
  let main_v182 : FVec F S4608x1024 .f32 := (fun l r => Host.dotGeneral dot_S4608x256_S256x1024_S4608x1024_1_0_0_1_n_n none l r) main_v175 main_v181
  let main_cst_42 : FVec F S_ .f32 := constant S_ .f32 0x40000000#32
  let main_v183 : FVec F S4608x1024 .f32 := broadcastInDim S4608x1024 ![] bcast_S_S4608x1024 main_cst_42
  let main_v184 : FVec F S4608x1024 .f32 := mulf main_v183 main_v182
  let main_v185 : FVec F S4608x1024 .f32 := broadcastInDim S4608x1024 ![0, 1] bcast_S4608x1_S4608x1024_0_1 main_v180
  let main_v186 : FVec F S4608x1024 .f32 := subf main_v185 main_v184
  let main_v187 : FVec F S1024x256 .f32 := mulf main_v177 main_v177
  let main_cst_43 : FVec F S_ .f32 := constant S_ .f32 0x00000000#32
  let main_v188 : FVec F S1024 .f32 := (fun x v => Host.reduceAdd x v reducesTo_S1024x256_S1024_d1 h_S_) main_v187 main_cst_43
  let main_v189 : FVec F S1x1024 .f32 := broadcastInDim S1x1024 ![1] bcast_S1024_S1x1024_1 main_v188
  let main_v190 : FVec F S4608x1024 .f32 := broadcastInDim S4608x1024 ![0, 1] bcast_S1x1024_S4608x1024_0_1 main_v189
  let main_v191 : FVec F S4608x1024 .f32 := addf main_v186 main_v190
  let main_cst_44 : FVec F S_ .f32 := constant S_ .f32 0x7F800000#32
  let main_v192 : FVec F S4608 .f32 := (fun x v => Host.reduce FloatOps.minimumf x v reducesTo_S4608x1024_S4608_d1 h_S_) main_v191 main_cst_44
  fn_part10 (F := F) main_v0 main_v172 main_v175 main_v177 main_v191 main_v192

def fn_part8 {F : FTy → Type} [FloatOps F] (main_v0 : FVec F S8x1024x256 .f32) (main_v143 : IVec S_ 1) (main_v146 : FVec F S4608x256 .f32) (main_v148 : FVec F S1024x256 .f32) (main_v151 : FVec F S4608x1 .f32) (main_v153 : FVec F S4608x1024 .f32) (main_cst_35 : FVec F S_ .f32) : IVec S_ 1 :=
  let main_v154 : FVec F S4608x1024 .f32 := broadcastInDim S4608x1024 ![] bcast_S_S4608x1024 main_cst_35
  let main_v155 : FVec F S4608x1024 .f32 := mulf main_v154 main_v153
  let main_v156 : FVec F S4608x1024 .f32 := broadcastInDim S4608x1024 ![0, 1] bcast_S4608x1_S4608x1024_0_1 main_v151
  let main_v157 : FVec F S4608x1024 .f32 := subf main_v156 main_v155
  let main_v158 : FVec F S1024x256 .f32 := mulf main_v148 main_v148
  let main_cst_36 : FVec F S_ .f32 := constant S_ .f32 0x00000000#32
  let main_v159 : FVec F S1024 .f32 := (fun x v => Host.reduceAdd x v reducesTo_S1024x256_S1024_d1 h_S_) main_v158 main_cst_36
  let main_v160 : FVec F S1x1024 .f32 := broadcastInDim S1x1024 ![1] bcast_S1024_S1x1024_1 main_v159
  let main_v161 : FVec F S4608x1024 .f32 := broadcastInDim S4608x1024 ![0, 1] bcast_S1x1024_S4608x1024_0_1 main_v160
  let main_v162 : FVec F S4608x1024 .f32 := addf main_v157 main_v161
  let main_cst_37 : FVec F S_ .f32 := constant S_ .f32 0x7F800000#32
  let main_v163 : FVec F S4608 .f32 := (fun x v => Host.reduce FloatOps.minimumf x v reducesTo_S4608x1024_S4608_d1 h_S_) main_v162 main_cst_37
  let main_v164 : FVec F S4608x1 .f32 := broadcastInDim S4608x1 ![0] bcast_S4608_S4608x1_0 main_v163
  let main_v165 : FVec F S4608x1024 .f32 := broadcastInDim S4608x1024 ![0, 1] bcast_S4608x1_S4608x1024_0_1 main_v164
  let main_v166 : IVec S4608x1024 1 := cmpf .oeq main_v162 main_v165
  let main_v167 : IVec S4608x1024 32 := (extui 32 · natLt_1_32) main_v166
  let main_c_38 : IVec S_ 32 := constantI S_ 32 0#32
  let main_v168 : IVec S4608 32 := (fun x v => Host.reduce IntOp.addi x v reducesTo_S4608x1024_S4608_d1 h_S_) main_v167 main_c_38
  let main_c_39 : IVec S_ 32 := constantI S_ 32 1#32
  let main_v169 : IVec S4608 32 := broadcastInDim S4608 ![] bcast_S_S4608 main_c_39
  let main_v170 : IVec S4608 1 := cmpi .eq main_v168 main_v169
  let main_c_40 : IVec S_ 1 := constantI S_ 1 1#1
  let main_v171 : IVec S_ 1 := (fun x v => Host.reduce IntOp.andi x v reducesTo_S4608_S_d0 h_S_) main_v170 main_c_40
  let main_v172 : IVec S_ 1 := andi main_v143 main_v171
  fn_part9 (F := F) main_v0 main_v146 main_v148 main_v162 main_v172

def fn_part7 {F : FTy → Type} [FloatOps F] (main_v0 : FVec F S8x1024x256 .f32) (main_v114 : IVec S_ 1) (main_v117 : FVec F S4608x256 .f32) (main_v119 : FVec F S1024x256 .f32) (main_v133 : FVec F S4608x1024 .f32) (main_v134 : FVec F S4608 .f32) : IVec S_ 1 :=
  let main_v135 : FVec F S4608x1 .f32 := broadcastInDim S4608x1 ![0] bcast_S4608_S4608x1_0 main_v134
  let main_v136 : FVec F S4608x1024 .f32 := broadcastInDim S4608x1024 ![0, 1] bcast_S4608x1_S4608x1024_0_1 main_v135
  let main_v137 : IVec S4608x1024 1 := cmpf .oeq main_v133 main_v136
  let main_v138 : IVec S4608x1024 32 := (extui 32 · natLt_1_32) main_v137
  let main_c_31 : IVec S_ 32 := constantI S_ 32 0#32
  let main_v139 : IVec S4608 32 := (fun x v => Host.reduce IntOp.addi x v reducesTo_S4608x1024_S4608_d1 h_S_) main_v138 main_c_31
  let main_c_32 : IVec S_ 32 := constantI S_ 32 1#32
  let main_v140 : IVec S4608 32 := broadcastInDim S4608 ![] bcast_S_S4608 main_c_32
  let main_v141 : IVec S4608 1 := cmpi .eq main_v139 main_v140
  let main_c_33 : IVec S_ 1 := constantI S_ 1 1#1
  let main_v142 : IVec S_ 1 := (fun x v => Host.reduce IntOp.andi x v reducesTo_S4608_S_d0 h_S_) main_v141 main_c_33
  let main_v143 : IVec S_ 1 := andi main_v114 main_v142
  let main_v144 : IVec S4608 32 := fn_argmin (F := F) main_v133
  let main_v145 : FVec F S4608x256 .f32 := fn_take (F := F) main_v119 main_v144
  let main_v146 : FVec F S4608x256 .f32 := subf main_v117 main_v145
  let main_v147 : FVec F S1x1024x256 .f32 := (extractStridedSlice S1x1024x256 ![5, 0, 0] · slices_S8x1024x256_S1x1024x256_5_0_0) main_v0
  let main_v148 : FVec F S1024x256 .f32 := shapeCast S1024x256 main_v147 shapeCasts_S1x1024x256_S1024x256
  let main_v149 : FVec F S4608x256 .f32 := mulf main_v146 main_v146
  let main_cst_34 : FVec F S_ .f32 := constant S_ .f32 0x00000000#32
  let main_v150 : FVec F S4608 .f32 := (fun x v => Host.reduceAdd x v reducesTo_S4608x256_S4608_d1 h_S_) main_v149 main_cst_34
  let main_v151 : FVec F S4608x1 .f32 := broadcastInDim S4608x1 ![0] bcast_S4608_S4608x1_0 main_v150
  let main_v152 : FVec F S256x1024 .f32 := (transpose S256x1024 [1, 0] · transposes_S1024x256_S256x1024_1_0) main_v148
  let main_v153 : FVec F S4608x1024 .f32 := (fun l r => Host.dotGeneral dot_S4608x256_S256x1024_S4608x1024_1_0_0_1_n_n none l r) main_v146 main_v152
  let main_cst_35 : FVec F S_ .f32 := constant S_ .f32 0x40000000#32
  fn_part8 (F := F) main_v0 main_v143 main_v146 main_v148 main_v151 main_v153 main_cst_35

def fn_part6 {F : FTy → Type} [FloatOps F] (main_v0 : FVec F S8x1024x256 .f32) (main_v88 : FVec F S4608x256 .f32) (main_v90 : FVec F S1024x256 .f32) (main_v104 : FVec F S4608x1024 .f32) (main_v114 : IVec S_ 1) : IVec S_ 1 :=
  let main_v115 : IVec S4608 32 := fn_argmin (F := F) main_v104
  let main_v116 : FVec F S4608x256 .f32 := fn_take (F := F) main_v90 main_v115
  let main_v117 : FVec F S4608x256 .f32 := subf main_v88 main_v116
  let main_v118 : FVec F S1x1024x256 .f32 := (extractStridedSlice S1x1024x256 ![4, 0, 0] · slices_S8x1024x256_S1x1024x256_4_0_0) main_v0
  let main_v119 : FVec F S1024x256 .f32 := shapeCast S1024x256 main_v118 shapeCasts_S1x1024x256_S1024x256
  let main_v120 : FVec F S4608x256 .f32 := mulf main_v117 main_v117
  let main_cst_27 : FVec F S_ .f32 := constant S_ .f32 0x00000000#32
  let main_v121 : FVec F S4608 .f32 := (fun x v => Host.reduceAdd x v reducesTo_S4608x256_S4608_d1 h_S_) main_v120 main_cst_27
  let main_v122 : FVec F S4608x1 .f32 := broadcastInDim S4608x1 ![0] bcast_S4608_S4608x1_0 main_v121
  let main_v123 : FVec F S256x1024 .f32 := (transpose S256x1024 [1, 0] · transposes_S1024x256_S256x1024_1_0) main_v119
  let main_v124 : FVec F S4608x1024 .f32 := (fun l r => Host.dotGeneral dot_S4608x256_S256x1024_S4608x1024_1_0_0_1_n_n none l r) main_v117 main_v123
  let main_cst_28 : FVec F S_ .f32 := constant S_ .f32 0x40000000#32
  let main_v125 : FVec F S4608x1024 .f32 := broadcastInDim S4608x1024 ![] bcast_S_S4608x1024 main_cst_28
  let main_v126 : FVec F S4608x1024 .f32 := mulf main_v125 main_v124
  let main_v127 : FVec F S4608x1024 .f32 := broadcastInDim S4608x1024 ![0, 1] bcast_S4608x1_S4608x1024_0_1 main_v122
  let main_v128 : FVec F S4608x1024 .f32 := subf main_v127 main_v126
  let main_v129 : FVec F S1024x256 .f32 := mulf main_v119 main_v119
  let main_cst_29 : FVec F S_ .f32 := constant S_ .f32 0x00000000#32
  let main_v130 : FVec F S1024 .f32 := (fun x v => Host.reduceAdd x v reducesTo_S1024x256_S1024_d1 h_S_) main_v129 main_cst_29
  let main_v131 : FVec F S1x1024 .f32 := broadcastInDim S1x1024 ![1] bcast_S1024_S1x1024_1 main_v130
  let main_v132 : FVec F S4608x1024 .f32 := broadcastInDim S4608x1024 ![0, 1] bcast_S1x1024_S4608x1024_0_1 main_v131
  let main_v133 : FVec F S4608x1024 .f32 := addf main_v128 main_v132
  let main_cst_30 : FVec F S_ .f32 := constant S_ .f32 0x7F800000#32
  let main_v134 : FVec F S4608 .f32 := (fun x v => Host.reduce FloatOps.minimumf x v reducesTo_S4608x1024_S4608_d1 h_S_) main_v133 main_cst_30
  fn_part7 (F := F) main_v0 main_v114 main_v117 main_v119 main_v133 main_v134

def fn_part5 {F : FTy → Type} [FloatOps F] (main_v0 : FVec F S8x1024x256 .f32) (main_v85 : IVec S_ 1) (main_v88 : FVec F S4608x256 .f32) (main_v90 : FVec F S1024x256 .f32) (main_v93 : FVec F S4608x1 .f32) (main_v95 : FVec F S4608x1024 .f32) (main_cst_21 : FVec F S_ .f32) : IVec S_ 1 :=
  let main_v96 : FVec F S4608x1024 .f32 := broadcastInDim S4608x1024 ![] bcast_S_S4608x1024 main_cst_21
  let main_v97 : FVec F S4608x1024 .f32 := mulf main_v96 main_v95
  let main_v98 : FVec F S4608x1024 .f32 := broadcastInDim S4608x1024 ![0, 1] bcast_S4608x1_S4608x1024_0_1 main_v93
  let main_v99 : FVec F S4608x1024 .f32 := subf main_v98 main_v97
  let main_v100 : FVec F S1024x256 .f32 := mulf main_v90 main_v90
  let main_cst_22 : FVec F S_ .f32 := constant S_ .f32 0x00000000#32
  let main_v101 : FVec F S1024 .f32 := (fun x v => Host.reduceAdd x v reducesTo_S1024x256_S1024_d1 h_S_) main_v100 main_cst_22
  let main_v102 : FVec F S1x1024 .f32 := broadcastInDim S1x1024 ![1] bcast_S1024_S1x1024_1 main_v101
  let main_v103 : FVec F S4608x1024 .f32 := broadcastInDim S4608x1024 ![0, 1] bcast_S1x1024_S4608x1024_0_1 main_v102
  let main_v104 : FVec F S4608x1024 .f32 := addf main_v99 main_v103
  let main_cst_23 : FVec F S_ .f32 := constant S_ .f32 0x7F800000#32
  let main_v105 : FVec F S4608 .f32 := (fun x v => Host.reduce FloatOps.minimumf x v reducesTo_S4608x1024_S4608_d1 h_S_) main_v104 main_cst_23
  let main_v106 : FVec F S4608x1 .f32 := broadcastInDim S4608x1 ![0] bcast_S4608_S4608x1_0 main_v105
  let main_v107 : FVec F S4608x1024 .f32 := broadcastInDim S4608x1024 ![0, 1] bcast_S4608x1_S4608x1024_0_1 main_v106
  let main_v108 : IVec S4608x1024 1 := cmpf .oeq main_v104 main_v107
  let main_v109 : IVec S4608x1024 32 := (extui 32 · natLt_1_32) main_v108
  let main_c_24 : IVec S_ 32 := constantI S_ 32 0#32
  let main_v110 : IVec S4608 32 := (fun x v => Host.reduce IntOp.addi x v reducesTo_S4608x1024_S4608_d1 h_S_) main_v109 main_c_24
  let main_c_25 : IVec S_ 32 := constantI S_ 32 1#32
  let main_v111 : IVec S4608 32 := broadcastInDim S4608 ![] bcast_S_S4608 main_c_25
  let main_v112 : IVec S4608 1 := cmpi .eq main_v110 main_v111
  let main_c_26 : IVec S_ 1 := constantI S_ 1 1#1
  let main_v113 : IVec S_ 1 := (fun x v => Host.reduce IntOp.andi x v reducesTo_S4608_S_d0 h_S_) main_v112 main_c_26
  let main_v114 : IVec S_ 1 := andi main_v85 main_v113
  fn_part6 (F := F) main_v0 main_v88 main_v90 main_v104 main_v114

def fn_part4 {F : FTy → Type} [FloatOps F] (main_v0 : FVec F S8x1024x256 .f32) (main_v56 : IVec S_ 1) (main_v59 : FVec F S4608x256 .f32) (main_v61 : FVec F S1024x256 .f32) (main_v75 : FVec F S4608x1024 .f32) (main_v76 : FVec F S4608 .f32) : IVec S_ 1 :=
  let main_v77 : FVec F S4608x1 .f32 := broadcastInDim S4608x1 ![0] bcast_S4608_S4608x1_0 main_v76
  let main_v78 : FVec F S4608x1024 .f32 := broadcastInDim S4608x1024 ![0, 1] bcast_S4608x1_S4608x1024_0_1 main_v77
  let main_v79 : IVec S4608x1024 1 := cmpf .oeq main_v75 main_v78
  let main_v80 : IVec S4608x1024 32 := (extui 32 · natLt_1_32) main_v79
  let main_c_17 : IVec S_ 32 := constantI S_ 32 0#32
  let main_v81 : IVec S4608 32 := (fun x v => Host.reduce IntOp.addi x v reducesTo_S4608x1024_S4608_d1 h_S_) main_v80 main_c_17
  let main_c_18 : IVec S_ 32 := constantI S_ 32 1#32
  let main_v82 : IVec S4608 32 := broadcastInDim S4608 ![] bcast_S_S4608 main_c_18
  let main_v83 : IVec S4608 1 := cmpi .eq main_v81 main_v82
  let main_c_19 : IVec S_ 1 := constantI S_ 1 1#1
  let main_v84 : IVec S_ 1 := (fun x v => Host.reduce IntOp.andi x v reducesTo_S4608_S_d0 h_S_) main_v83 main_c_19
  let main_v85 : IVec S_ 1 := andi main_v56 main_v84
  let main_v86 : IVec S4608 32 := fn_argmin (F := F) main_v75
  let main_v87 : FVec F S4608x256 .f32 := fn_take (F := F) main_v61 main_v86
  let main_v88 : FVec F S4608x256 .f32 := subf main_v59 main_v87
  let main_v89 : FVec F S1x1024x256 .f32 := (extractStridedSlice S1x1024x256 ![3, 0, 0] · slices_S8x1024x256_S1x1024x256_3_0_0) main_v0
  let main_v90 : FVec F S1024x256 .f32 := shapeCast S1024x256 main_v89 shapeCasts_S1x1024x256_S1024x256
  let main_v91 : FVec F S4608x256 .f32 := mulf main_v88 main_v88
  let main_cst_20 : FVec F S_ .f32 := constant S_ .f32 0x00000000#32
  let main_v92 : FVec F S4608 .f32 := (fun x v => Host.reduceAdd x v reducesTo_S4608x256_S4608_d1 h_S_) main_v91 main_cst_20
  let main_v93 : FVec F S4608x1 .f32 := broadcastInDim S4608x1 ![0] bcast_S4608_S4608x1_0 main_v92
  let main_v94 : FVec F S256x1024 .f32 := (transpose S256x1024 [1, 0] · transposes_S1024x256_S256x1024_1_0) main_v90
  let main_v95 : FVec F S4608x1024 .f32 := (fun l r => Host.dotGeneral dot_S4608x256_S256x1024_S4608x1024_1_0_0_1_n_n none l r) main_v88 main_v94
  let main_cst_21 : FVec F S_ .f32 := constant S_ .f32 0x40000000#32
  fn_part5 (F := F) main_v0 main_v85 main_v88 main_v90 main_v93 main_v95 main_cst_21

def fn_part3 {F : FTy → Type} [FloatOps F] (main_v0 : FVec F S8x1024x256 .f32) (main_v30 : FVec F S4608x256 .f32) (main_v32 : FVec F S1024x256 .f32) (main_v46 : FVec F S4608x1024 .f32) (main_v56 : IVec S_ 1) : IVec S_ 1 :=
  let main_v57 : IVec S4608 32 := fn_argmin (F := F) main_v46
  let main_v58 : FVec F S4608x256 .f32 := fn_take (F := F) main_v32 main_v57
  let main_v59 : FVec F S4608x256 .f32 := subf main_v30 main_v58
  let main_v60 : FVec F S1x1024x256 .f32 := (extractStridedSlice S1x1024x256 ![2, 0, 0] · slices_S8x1024x256_S1x1024x256_2_0_0) main_v0
  let main_v61 : FVec F S1024x256 .f32 := shapeCast S1024x256 main_v60 shapeCasts_S1x1024x256_S1024x256
  let main_v62 : FVec F S4608x256 .f32 := mulf main_v59 main_v59
  let main_cst_13 : FVec F S_ .f32 := constant S_ .f32 0x00000000#32
  let main_v63 : FVec F S4608 .f32 := (fun x v => Host.reduceAdd x v reducesTo_S4608x256_S4608_d1 h_S_) main_v62 main_cst_13
  let main_v64 : FVec F S4608x1 .f32 := broadcastInDim S4608x1 ![0] bcast_S4608_S4608x1_0 main_v63
  let main_v65 : FVec F S256x1024 .f32 := (transpose S256x1024 [1, 0] · transposes_S1024x256_S256x1024_1_0) main_v61
  let main_v66 : FVec F S4608x1024 .f32 := (fun l r => Host.dotGeneral dot_S4608x256_S256x1024_S4608x1024_1_0_0_1_n_n none l r) main_v59 main_v65
  let main_cst_14 : FVec F S_ .f32 := constant S_ .f32 0x40000000#32
  let main_v67 : FVec F S4608x1024 .f32 := broadcastInDim S4608x1024 ![] bcast_S_S4608x1024 main_cst_14
  let main_v68 : FVec F S4608x1024 .f32 := mulf main_v67 main_v66
  let main_v69 : FVec F S4608x1024 .f32 := broadcastInDim S4608x1024 ![0, 1] bcast_S4608x1_S4608x1024_0_1 main_v64
  let main_v70 : FVec F S4608x1024 .f32 := subf main_v69 main_v68
  let main_v71 : FVec F S1024x256 .f32 := mulf main_v61 main_v61
  let main_cst_15 : FVec F S_ .f32 := constant S_ .f32 0x00000000#32
  let main_v72 : FVec F S1024 .f32 := (fun x v => Host.reduceAdd x v reducesTo_S1024x256_S1024_d1 h_S_) main_v71 main_cst_15
  let main_v73 : FVec F S1x1024 .f32 := broadcastInDim S1x1024 ![1] bcast_S1024_S1x1024_1 main_v72
  let main_v74 : FVec F S4608x1024 .f32 := broadcastInDim S4608x1024 ![0, 1] bcast_S1x1024_S4608x1024_0_1 main_v73
  let main_v75 : FVec F S4608x1024 .f32 := addf main_v70 main_v74
  let main_cst_16 : FVec F S_ .f32 := constant S_ .f32 0x7F800000#32
  let main_v76 : FVec F S4608 .f32 := (fun x v => Host.reduce FloatOps.minimumf x v reducesTo_S4608x1024_S4608_d1 h_S_) main_v75 main_cst_16
  fn_part4 (F := F) main_v0 main_v56 main_v59 main_v61 main_v75 main_v76

def fn_part2 {F : FTy → Type} [FloatOps F] (main_v0 : FVec F S8x1024x256 .f32) (main_v27 : IVec S_ 1) (main_v30 : FVec F S4608x256 .f32) (main_v32 : FVec F S1024x256 .f32) (main_v35 : FVec F S4608x1 .f32) (main_v37 : FVec F S4608x1024 .f32) (main_cst_7 : FVec F S_ .f32) : IVec S_ 1 :=
  let main_v38 : FVec F S4608x1024 .f32 := broadcastInDim S4608x1024 ![] bcast_S_S4608x1024 main_cst_7
  let main_v39 : FVec F S4608x1024 .f32 := mulf main_v38 main_v37
  let main_v40 : FVec F S4608x1024 .f32 := broadcastInDim S4608x1024 ![0, 1] bcast_S4608x1_S4608x1024_0_1 main_v35
  let main_v41 : FVec F S4608x1024 .f32 := subf main_v40 main_v39
  let main_v42 : FVec F S1024x256 .f32 := mulf main_v32 main_v32
  let main_cst_8 : FVec F S_ .f32 := constant S_ .f32 0x00000000#32
  let main_v43 : FVec F S1024 .f32 := (fun x v => Host.reduceAdd x v reducesTo_S1024x256_S1024_d1 h_S_) main_v42 main_cst_8
  let main_v44 : FVec F S1x1024 .f32 := broadcastInDim S1x1024 ![1] bcast_S1024_S1x1024_1 main_v43
  let main_v45 : FVec F S4608x1024 .f32 := broadcastInDim S4608x1024 ![0, 1] bcast_S1x1024_S4608x1024_0_1 main_v44
  let main_v46 : FVec F S4608x1024 .f32 := addf main_v41 main_v45
  let main_cst_9 : FVec F S_ .f32 := constant S_ .f32 0x7F800000#32
  let main_v47 : FVec F S4608 .f32 := (fun x v => Host.reduce FloatOps.minimumf x v reducesTo_S4608x1024_S4608_d1 h_S_) main_v46 main_cst_9
  let main_v48 : FVec F S4608x1 .f32 := broadcastInDim S4608x1 ![0] bcast_S4608_S4608x1_0 main_v47
  let main_v49 : FVec F S4608x1024 .f32 := broadcastInDim S4608x1024 ![0, 1] bcast_S4608x1_S4608x1024_0_1 main_v48
  let main_v50 : IVec S4608x1024 1 := cmpf .oeq main_v46 main_v49
  let main_v51 : IVec S4608x1024 32 := (extui 32 · natLt_1_32) main_v50
  let main_c_10 : IVec S_ 32 := constantI S_ 32 0#32
  let main_v52 : IVec S4608 32 := (fun x v => Host.reduce IntOp.addi x v reducesTo_S4608x1024_S4608_d1 h_S_) main_v51 main_c_10
  let main_c_11 : IVec S_ 32 := constantI S_ 32 1#32
  let main_v53 : IVec S4608 32 := broadcastInDim S4608 ![] bcast_S_S4608 main_c_11
  let main_v54 : IVec S4608 1 := cmpi .eq main_v52 main_v53
  let main_c_12 : IVec S_ 1 := constantI S_ 1 1#1
  let main_v55 : IVec S_ 1 := (fun x v => Host.reduce IntOp.andi x v reducesTo_S4608_S_d0 h_S_) main_v54 main_c_12
  let main_v56 : IVec S_ 1 := andi main_v27 main_v55
  fn_part3 (F := F) main_v0 main_v30 main_v32 main_v46 main_v56

def fn_part1 {F : FTy → Type} [FloatOps F] (main_v0 : FVec F S8x1024x256 .f32) (main_v1 : FVec F S4608x256 .f32) (main_v3 : FVec F S1024x256 .f32) (main_v17 : FVec F S4608x1024 .f32) (main_v19 : FVec F S4608x1 .f32) : IVec S_ 1 :=
  let main_v20 : FVec F S4608x1024 .f32 := broadcastInDim S4608x1024 ![0, 1] bcast_S4608x1_S4608x1024_0_1 main_v19
  let main_v21 : IVec S4608x1024 1 := cmpf .oeq main_v17 main_v20
  let main_v22 : IVec S4608x1024 32 := (extui 32 · natLt_1_32) main_v21
  let main_c : IVec S_ 32 := constantI S_ 32 0#32
  let main_v23 : IVec S4608 32 := (fun x v => Host.reduce IntOp.addi x v reducesTo_S4608x1024_S4608_d1 h_S_) main_v22 main_c
  let main_c_3 : IVec S_ 32 := constantI S_ 32 1#32
  let main_v24 : IVec S4608 32 := broadcastInDim S4608 ![] bcast_S_S4608 main_c_3
  let main_v25 : IVec S4608 1 := cmpi .eq main_v23 main_v24
  let main_c_4 : IVec S_ 1 := constantI S_ 1 1#1
  let main_v26 : IVec S_ 1 := (fun x v => Host.reduce IntOp.andi x v reducesTo_S4608_S_d0 h_S_) main_v25 main_c_4
  let main_c_5 : IVec S_ 1 := constantI S_ 1 1#1
  let main_v27 : IVec S_ 1 := andi main_c_5 main_v26
  let main_v28 : IVec S4608 32 := fn_argmin (F := F) main_v17
  let main_v29 : FVec F S4608x256 .f32 := fn_take (F := F) main_v3 main_v28
  let main_v30 : FVec F S4608x256 .f32 := subf main_v1 main_v29
  let main_v31 : FVec F S1x1024x256 .f32 := (extractStridedSlice S1x1024x256 ![1, 0, 0] · slices_S8x1024x256_S1x1024x256_1_0_0) main_v0
  let main_v32 : FVec F S1024x256 .f32 := shapeCast S1024x256 main_v31 shapeCasts_S1x1024x256_S1024x256
  let main_v33 : FVec F S4608x256 .f32 := mulf main_v30 main_v30
  let main_cst_6 : FVec F S_ .f32 := constant S_ .f32 0x00000000#32
  let main_v34 : FVec F S4608 .f32 := (fun x v => Host.reduceAdd x v reducesTo_S4608x256_S4608_d1 h_S_) main_v33 main_cst_6
  let main_v35 : FVec F S4608x1 .f32 := broadcastInDim S4608x1 ![0] bcast_S4608_S4608x1_0 main_v34
  let main_v36 : FVec F S256x1024 .f32 := (transpose S256x1024 [1, 0] · transposes_S1024x256_S256x1024_1_0) main_v32
  let main_v37 : FVec F S4608x1024 .f32 := (fun l r => Host.dotGeneral dot_S4608x256_S256x1024_S4608x1024_1_0_0_1_n_n none l r) main_v30 main_v36
  let main_cst_7 : FVec F S_ .f32 := constant S_ .f32 0x40000000#32
  fn_part2 (F := F) main_v0 main_v27 main_v30 main_v32 main_v35 main_v37 main_cst_7

def fn {F : FTy → Type} [FloatOps F] (main_arg0 : FVec F S8x576x256 .f32) (main_arg1 : IVec S8x1024x256 32) : IVec S_ 1 :=
  let main_v0 : FVec F S8x1024x256 .f32 := bitcastToFloat .f32 main_arg1
  let main_v1 : FVec F S4608x256 .f32 := shapeCast S4608x256 main_arg0 shapeCasts_S8x576x256_S4608x256
  let main_v2 : FVec F S1x1024x256 .f32 := (extractStridedSlice S1x1024x256 ![0, 0, 0] · slices_S8x1024x256_S1x1024x256_0_0_0) main_v0
  let main_v3 : FVec F S1024x256 .f32 := shapeCast S1024x256 main_v2 shapeCasts_S1x1024x256_S1024x256
  let main_v4 : FVec F S4608x256 .f32 := mulf main_v1 main_v1
  let main_cst : FVec F S_ .f32 := constant S_ .f32 0x00000000#32
  let main_v5 : FVec F S4608 .f32 := (fun x v => Host.reduceAdd x v reducesTo_S4608x256_S4608_d1 h_S_) main_v4 main_cst
  let main_v6 : FVec F S4608x1 .f32 := broadcastInDim S4608x1 ![0] bcast_S4608_S4608x1_0 main_v5
  let main_v7 : FVec F S256x1024 .f32 := (transpose S256x1024 [1, 0] · transposes_S1024x256_S256x1024_1_0) main_v3
  let main_v8 : FVec F S4608x1024 .f32 := (fun l r => Host.dotGeneral dot_S4608x256_S256x1024_S4608x1024_1_0_0_1_n_n none l r) main_v1 main_v7
  let main_cst_0 : FVec F S_ .f32 := constant S_ .f32 0x40000000#32
  let main_v9 : FVec F S4608x1024 .f32 := broadcastInDim S4608x1024 ![] bcast_S_S4608x1024 main_cst_0
  let main_v10 : FVec F S4608x1024 .f32 := mulf main_v9 main_v8
  let main_v11 : FVec F S4608x1024 .f32 := broadcastInDim S4608x1024 ![0, 1] bcast_S4608x1_S4608x1024_0_1 main_v6
  let main_v12 : FVec F S4608x1024 .f32 := subf main_v11 main_v10
  let main_v13 : FVec F S1024x256 .f32 := mulf main_v3 main_v3
  let main_cst_1 : FVec F S_ .f32 := constant S_ .f32 0x00000000#32
  let main_v14 : FVec F S1024 .f32 := (fun x v => Host.reduceAdd x v reducesTo_S1024x256_S1024_d1 h_S_) main_v13 main_cst_1
  let main_v15 : FVec F S1x1024 .f32 := broadcastInDim S1x1024 ![1] bcast_S1024_S1x1024_1 main_v14
  let main_v16 : FVec F S4608x1024 .f32 := broadcastInDim S4608x1024 ![0, 1] bcast_S1x1024_S4608x1024_0_1 main_v15
  let main_v17 : FVec F S4608x1024 .f32 := addf main_v12 main_v16
  let main_cst_2 : FVec F S_ .f32 := constant S_ .f32 0x7F800000#32
  let main_v18 : FVec F S4608 .f32 := (fun x v => Host.reduce FloatOps.minimumf x v reducesTo_S4608x1024_S4608_d1 h_S_) main_v17 main_cst_2
  let main_v19 : FVec F S4608x1 .f32 := broadcastInDim S4608x1 ![0] bcast_S4608_S4608x1_0 main_v18
  fn_part1 (F := F) main_v0 main_v1 main_v3 main_v17 main_v19
-- ==== Kernel.lean ====
abbrev S8x576x256 : Shape := ⟨3, ![8, 576, 256]⟩
abbrev S8x1024x256 : Shape := ⟨3, ![8, 1024, 256]⟩
abbrev S4608x256 : Shape := ⟨2, ![4608, 256]⟩
abbrev S8192x256 : Shape := ⟨2, ![8192, 256]⟩
abbrev S_ : Shape := ⟨0, ![]⟩
abbrev S8192x1024 : Shape := ⟨2, ![8192, 1024]⟩
abbrev S8x1024 : Shape := ⟨2, ![8, 1024]⟩
abbrev S6x1x768 : Shape := ⟨3, ![6, 1, 768]⟩
abbrev S6x8x1024 : Shape := ⟨3, ![6, 8, 1024]⟩
abbrev S6x8x128 : Shape := ⟨3, ![6, 8, 128]⟩
abbrev S768x256 : Shape := ⟨2, ![768, 256]⟩
abbrev S1x1x768 : Shape := ⟨3, ![1, 1, 768]⟩
abbrev S1x8x1024 : Shape := ⟨3, ![1, 8, 1024]⟩
abbrev S1x8x128 : Shape := ⟨3, ![1, 8, 128]⟩
abbrev S768x1024 : Shape := ⟨2, ![768, 1024]⟩
abbrev S768 : Shape := ⟨1, ![768]⟩
abbrev S768x1 : Shape := ⟨2, ![768, 1]⟩
abbrev S1024x256 : Shape := ⟨2, ![1024, 256]⟩
abbrev S1x1024 : Shape := ⟨2, ![1, 1024]⟩
abbrev S1024x1024 : Shape := ⟨2, ![1024, 1024]⟩
abbrev S1x768 : Shape := ⟨2, ![1, 768]⟩
abbrev S1x1x1024 : Shape := ⟨3, ![1, 1, 1024]⟩
abbrev S1x768x1 : Shape := ⟨3, ![1, 768, 1]⟩
abbrev S1 : Shape := ⟨1, ![1]⟩
abbrev S1x1x1 : Shape := ⟨3, ![1, 1, 1]⟩
abbrev S1x128 : Shape := ⟨2, ![1, 128]⟩
abbrev S1x1x128 : Shape := ⟨3, ![1, 1, 128]⟩
abbrev S8x128 : Shape := ⟨2, ![8, 128]⟩
abbrev S8 : Shape := ⟨1, ![8]⟩
abbrev S8x1 : Shape := ⟨2, ![8, 1]⟩
abbrev S1x8x1 : Shape := ⟨3, ![1, 8, 1]⟩
abbrev S6x8x1 : Shape := ⟨3, ![6, 8, 1]⟩
abbrev S1x6x8x1 : Shape := ⟨4, ![1, 6, 8, 1]⟩
abbrev S1x1x1x1 : Shape := ⟨4, ![1, 1, 1, 1]⟩
abbrev S4608 : Shape := ⟨1, ![4608]⟩
abbrev S4608x1 : Shape := ⟨2, ![4608, 1]⟩
abbrev S4608x8 : Shape := ⟨2, ![4608, 8]⟩
abbrev S8x576x8 : Shape := ⟨3, ![8, 576, 8]⟩
abbrev S1x1 : Shape := ⟨2, ![1, 1]⟩

abbrev nBuf : Space → Nat
  | .hbm => 88
  | .vmem => 32
  | .smem => 0
  | _ => 0

abbrev bufTy : (tb : Table) → Fin (tcTables nBuf tb) → BufTy
  | .hbm, ⟨0, _⟩ => ⟨S8x576x256, .f32⟩
  | .hbm, ⟨1, _⟩ => ⟨S8x1024x256, .i32⟩
  | .hbm, ⟨2, _⟩ => ⟨S8x1024x256, .f32⟩
  | .hbm, ⟨3, _⟩ => ⟨S4608x256, .f32⟩
  | .hbm, ⟨4, _⟩ => ⟨S8192x256, .f32⟩
  | .hbm, ⟨5, _⟩ => ⟨S8192x256, .i32⟩
  | .hbm, ⟨6, _⟩ => ⟨S_, .i32⟩
  | .hbm, ⟨7, _⟩ => ⟨S8192x256, .i32⟩
  | .hbm, ⟨8, _⟩ => ⟨S8192x256, .i32⟩
  | .hbm, ⟨9, _⟩ => ⟨S_, .i32⟩
  | .hbm, ⟨10, _⟩ => ⟨S8192x256, .i32⟩
  | .hbm, ⟨11, _⟩ => ⟨S8192x256, .i32⟩
  | .hbm, ⟨12, _⟩ => ⟨S8192x256, .i32⟩
  | .hbm, ⟨13, _⟩ => ⟨S_, .i32⟩
  | .hbm, ⟨14, _⟩ => ⟨S8192x256, .i32⟩
  | .hbm, ⟨15, _⟩ => ⟨S8192x256, .i32⟩
  | .hbm, ⟨16, _⟩ => ⟨S_, .i32⟩
  | .hbm, ⟨17, _⟩ => ⟨S8192x256, .i32⟩
  | .hbm, ⟨18, _⟩ => ⟨S8192x256, .i32⟩
  | .hbm, ⟨19, _⟩ => ⟨S_, .i32⟩
  | .hbm, ⟨20, _⟩ => ⟨S8192x256, .i32⟩
  | .hbm, ⟨21, _⟩ => ⟨S8192x256, .i32⟩
  | .hbm, ⟨22, _⟩ => ⟨S8192x256, .i32⟩
  | .hbm, ⟨23, _⟩ => ⟨S_, .i32⟩
  | .hbm, ⟨24, _⟩ => ⟨S8192x256, .i32⟩
  | .hbm, ⟨25, _⟩ => ⟨S8192x256, .i32⟩
  | .hbm, ⟨26, _⟩ => ⟨S_, .i32⟩
  | .hbm, ⟨27, _⟩ => ⟨S8192x256, .i32⟩
  | .hbm, ⟨28, _⟩ => ⟨S8192x256, .i32⟩
  | .hbm, ⟨29, _⟩ => ⟨S_, .i32⟩
  | .hbm, ⟨30, _⟩ => ⟨S8192x256, .i32⟩
  | .hbm, ⟨31, _⟩ => ⟨S8192x256, .i32⟩
  | .hbm, ⟨32, _⟩ => ⟨S8192x256, .i32⟩
  | .hbm, ⟨33, _⟩ => ⟨S_, .i32⟩
  | .hbm, ⟨34, _⟩ => ⟨S8192x256, .i32⟩
  | .hbm, ⟨35, _⟩ => ⟨S8192x256, .i32⟩
  | .hbm, ⟨36, _⟩ => ⟨S_, .i32⟩
  | .hbm, ⟨37, _⟩ => ⟨S8192x256, .i32⟩
  | .hbm, ⟨38, _⟩ => ⟨S8192x256, .i32⟩
  | .hbm, ⟨39, _⟩ => ⟨S_, .i32⟩
  | .hbm, ⟨40, _⟩ => ⟨S8192x256, .i32⟩
  | .hbm, ⟨41, _⟩ => ⟨S8192x256, .i32⟩
  | .hbm, ⟨42, _⟩ => ⟨S8192x256, .i32⟩
  | .hbm, ⟨43, _⟩ => ⟨S_, .i32⟩
  | .hbm, ⟨44, _⟩ => ⟨S8192x256, .i32⟩
  | .hbm, ⟨45, _⟩ => ⟨S8192x256, .i32⟩
  | .hbm, ⟨46, _⟩ => ⟨S8192x1024, .i32⟩
  | .hbm, ⟨47, _⟩ => ⟨S8192x1024, .i8⟩
  | .hbm, ⟨48, _⟩ => ⟨S8x1024x256, .f32⟩
  | .hbm, ⟨49, _⟩ => ⟨S_, .f32⟩
  | .hbm, ⟨50, _⟩ => ⟨S8x1024, .f32⟩
  | .hbm, ⟨51, _⟩ => ⟨S4608x256, .f32⟩
  | .hbm, ⟨52, _⟩ => ⟨S6x1x768, .i32⟩
  | .hbm, ⟨53, _⟩ => ⟨S6x1x768, .i32⟩
  | .hbm, ⟨54, _⟩ => ⟨S6x1x768, .i32⟩
  | .hbm, ⟨55, _⟩ => ⟨S6x1x768, .i32⟩
  | .hbm, ⟨56, _⟩ => ⟨S6x1x768, .i32⟩
  | .hbm, ⟨57, _⟩ => ⟨S6x1x768, .i32⟩
  | .hbm, ⟨58, _⟩ => ⟨S6x1x768, .i32⟩
  | .hbm, ⟨59, _⟩ => ⟨S6x1x768, .i32⟩
  | .hbm, ⟨60, _⟩ => ⟨S6x8x1024, .f32⟩
  | .hbm, ⟨61, _⟩ => ⟨S6x8x128, .f32⟩
  | .hbm, ⟨62, _⟩ => ⟨S8x1024, .f32⟩
  | .hbm, ⟨63, _⟩ => ⟨S8x128, .f32⟩
  | .hbm, ⟨64, _⟩ => ⟨S8x128, .f32⟩
  | .hbm, ⟨65, _⟩ => ⟨S4608, .i32⟩
  | .hbm, ⟨66, _⟩ => ⟨S4608, .i32⟩
  | .hbm, ⟨67, _⟩ => ⟨S4608, .i32⟩
  | .hbm, ⟨68, _⟩ => ⟨S4608, .i32⟩
  | .hbm, ⟨69, _⟩ => ⟨S4608, .i32⟩
  | .hbm, ⟨70, _⟩ => ⟨S4608, .i32⟩
  | .hbm, ⟨71, _⟩ => ⟨S4608, .i32⟩
  | .hbm, ⟨72, _⟩ => ⟨S4608, .i32⟩
  | .hbm, ⟨73, _⟩ => ⟨S4608x1, .i32⟩
  | .hbm, ⟨74, _⟩ => ⟨S4608x1, .i32⟩
  | .hbm, ⟨75, _⟩ => ⟨S4608x1, .i32⟩
  | .hbm, ⟨76, _⟩ => ⟨S4608x1, .i32⟩
  | .hbm, ⟨77, _⟩ => ⟨S4608x1, .i32⟩
  | .hbm, ⟨78, _⟩ => ⟨S4608x1, .i32⟩
  | .hbm, ⟨79, _⟩ => ⟨S4608x1, .i32⟩
  | .hbm, ⟨80, _⟩ => ⟨S4608x1, .i32⟩
  | .hbm, ⟨81, _⟩ => ⟨S4608x8, .i32⟩
  | .hbm, ⟨82, _⟩ => ⟨S8x576x8, .i32⟩
  | .hbm, ⟨83, _⟩ => ⟨S8x576x256, .f32⟩
  | .hbm, ⟨84, _⟩ => ⟨S1x1, .f32⟩
  | .hbm, ⟨85, _⟩ => ⟨S_, .f32⟩
  | .hbm, ⟨86, _⟩ => ⟨S1x1, .f32⟩
  | .hbm, ⟨87, _⟩ => ⟨S_, .f32⟩
  | .local _ .vmem, ⟨0, _⟩ => ⟨S768x256, .f32⟩
  | .local _ .vmem, ⟨1, _⟩ => ⟨S768x256, .f32⟩
  | .local _ .vmem, ⟨2, _⟩ => ⟨S8192x256, .f32⟩
  | .local _ .vmem, ⟨3, _⟩ => ⟨S8192x1024, .i8⟩
  | .local _ .vmem, ⟨4, _⟩ => ⟨S8x1024, .f32⟩
  | .local _ .vmem, ⟨5, _⟩ => ⟨S768x256, .f32⟩
  | .local _ .vmem, ⟨6, _⟩ => ⟨S768x256, .f32⟩
  | .local _ .vmem, ⟨7, _⟩ => ⟨S1x1x768, .i32⟩
  | .local _ .vmem, ⟨8, _⟩ => ⟨S1x1x768, .i32⟩
  | .local _ .vmem, ⟨9, _⟩ => ⟨S1x1x768, .i32⟩
  | .local _ .vmem, ⟨10, _⟩ => ⟨S1x1x768, .i32⟩
  | .local _ .vmem, ⟨11, _⟩ => ⟨S1x1x768, .i32⟩
  | .local _ .vmem, ⟨12, _⟩ => ⟨S1x1x768, .i32⟩
  | .local _ .vmem, ⟨13, _⟩ => ⟨S1x1x768, .i32⟩
  | .local _ .vmem, ⟨14, _⟩ => ⟨S1x1x768, .i32⟩
  | .local _ .vmem, ⟨15, _⟩ => ⟨S1x1x768, .i32⟩
  | .local _ .vmem, ⟨16, _⟩ => ⟨S1x1x768, .i32⟩
  | .local _ .vmem, ⟨17, _⟩ => ⟨S1x1x768, .i32⟩
  | .local _ .vmem, ⟨18, _⟩ => ⟨S1x1x768, .i32⟩
  | .local _ .vmem, ⟨19, _⟩ => ⟨S1x1x768, .i32⟩
  | .local _ .vmem, ⟨20, _⟩ => ⟨S1x1x768, .i32⟩
  | .local _ .vmem, ⟨21, _⟩ => ⟨S1x1x768, .i32⟩
  | .local _ .vmem, ⟨22, _⟩ => ⟨S1x1x768, .i32⟩
  | .local _ .vmem, ⟨23, _⟩ => ⟨S1x8x1024, .f32⟩
  | .local _ .vmem, ⟨24, _⟩ => ⟨S1x8x1024, .f32⟩
  | .local _ .vmem, ⟨25, _⟩ => ⟨S1x8x128, .f32⟩
  | .local _ .vmem, ⟨26, _⟩ => ⟨S1x8x128, .f32⟩
  | .local _ .vmem, ⟨27, _⟩ => ⟨S6x8x1024, .f32⟩
  | .local _ .vmem, ⟨28, _⟩ => ⟨S6x8x128, .f32⟩
  | .local _ .vmem, ⟨29, _⟩ => ⟨S8x1024, .f32⟩
  | .local _ .vmem, ⟨30, _⟩ => ⟨S8x128, .f32⟩
  | .local _ .vmem, ⟨31, _⟩ => ⟨S8x128, .f32⟩
  | _, _ => ⟨S8x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_c_8 : Ref sig .tc := ⟨.hbm, 36, rfl⟩
abbrev main_v25 : Ref sig .tc := ⟨.hbm, 37, rfl⟩
abbrev main_v26 : Ref sig .tc := ⟨.hbm, 38, rfl⟩
abbrev main_c_9 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev main_v36_2 : Ref sig .tc := ⟨.hbm, 53, rfl⟩
abbrev main_v36_3 : Ref sig .tc := ⟨.hbm, 54, rfl⟩
abbrev main_v36_4 : Ref sig .tc := ⟨.hbm, 55, rfl⟩
abbrev main_v36_5 : Ref sig .tc := ⟨.hbm, 56, rfl⟩
abbrev main_v36_6 : Ref sig .tc := ⟨.hbm, 57, rfl⟩
abbrev main_v36_7 : Ref sig .tc := ⟨.hbm, 58, rfl⟩
abbrev main_v36_8 : Ref sig .tc := ⟨.hbm, 59, rfl⟩
abbrev main_v36_9 : Ref sig .tc := ⟨.hbm, 60, rfl⟩
abbrev main_v36_10 : Ref sig .tc := ⟨.hbm, 61, rfl⟩
abbrev main_v37_0 : Ref sig .tc := ⟨.hbm, 62, rfl⟩
abbrev main_v37_1 : Ref sig .tc := ⟨.hbm, 63, rfl⟩
abbrev main_v37_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc1_stg0_0 : Ref sig .tc := ⟨.vmem, 27, rfl⟩
abbrev cc1_stg1_0 : Ref sig .tc := ⟨.vmem, 28, rfl⟩
abbrev cc1_stg2_0 : Ref sig .tc := ⟨.vmem, 29, rfl⟩
abbrev cc1_stg3_0 : Ref sig .tc := ⟨.vmem, 30, rfl⟩
abbrev cc1_stg4_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc1_sem0_0 : DmaSem sig := 27
abbrev cc1_sem1_0 : DmaSem sig := 28
abbrev cc1_sem2_0 : DmaSem sig := 29
abbrev cc1_sem3_0 : DmaSem sig := 30
abbrev cc1_sem4_0 : DmaSem sig := 31

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x768 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x768 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x768 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x768 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x768 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x768 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x768 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := .none

abbrev stage1_0 : Fin 1 → Memref sig .tc .vmem S6x8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S6x8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S8x576x256 : Shape := ⟨3, ![8, 576, 256]⟩
abbrev S8x1024x256 : Shape := ⟨3, ![8, 1024, 256]⟩
abbrev S4608x256 : Shape := ⟨2, ![4608, 256]⟩
abbrev S_ : Shape := ⟨0, ![]⟩
abbrev S1x1024x256 : Shape := ⟨3, ![1, 1024, 256]⟩
abbrev S1024x256 : Shape := ⟨2, ![1024, 256]⟩
abbrev S4608 : Shape := ⟨1, ![4608]⟩
abbrev S4608x1 : Shape := ⟨2, ![4608, 1]⟩
abbrev S256x1024 : Shape := ⟨2, ![256, 1024]⟩
abbrev S4608x1024 : Shape := ⟨2, ![4608, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S4608x8 : Shape := ⟨2, ![4608, 8]⟩
abbrev S8x576x8 : Shape := ⟨3, ![8, 576, 8]⟩

abbrev nBuf : Space → Nat
  | .hbm => 793
  | .vmem => 0
  | .smem => 0
  | _ => 0

abbrev hbmTy0_0 (i : Nat) : BufTy := match i % 128 with
  | 0 => ⟨S8x576x256, .f32⟩
  | 1 => ⟨S8x1024x256, .i32⟩
  | 2 => ⟨S8x1024x256, .f32⟩
  | 3 => ⟨S4608x256, .f32⟩
  | 4 => ⟨S_, .f32⟩
  | 5 => ⟨S4608x256, .f32⟩
  | 6 => ⟨S1x1024x256, .f32⟩
  | 7 => ⟨S1024x256, .f32⟩
  | 8 => ⟨S4608x256, .f32⟩
  | 9 => ⟨S_, .f32⟩
  | 10 => ⟨S4608, .f32⟩
  | 11 => ⟨S4608x1, .f32⟩
  | 12 => ⟨S256x1024, .f32⟩
  | 13 => ⟨S4608x1024, .f32⟩
  | 14 => ⟨S_, .f32⟩
  | 15 => ⟨S4608x1024, .f32⟩
  | 16 => ⟨S4608x1024, .f32⟩
  | 17 => ⟨S4608x1024, .f32⟩
  | 18 => ⟨S4608x1024, .f32⟩
  | 19 => ⟨S1024x256, .f32⟩
  | 20 => ⟨S_, .f32⟩
  | 21 => ⟨S1024, .f32⟩
  | 22 => ⟨S1x1024, .f32⟩
  | 23 => ⟨S4608x1024, .f32⟩
  | 24 => ⟨S4608x1024, .f32⟩
  | 25 => ⟨S_, .f32⟩
  | 26 => ⟨S4608, .f32⟩
  | 27 => ⟨S4608x1, .f32⟩
  | 28 => ⟨S1024, .i32⟩
  | 29 => ⟨S1x1024, .i32⟩
  | 30 => ⟨S4608x1024, .f32⟩
  | 31 => ⟨S4608x1024, .i1⟩
  | 32 => ⟨S_, .i32⟩
  | 33 => ⟨S_, .i32⟩
  | 34 => ⟨S4608x1024, .i32⟩
  | 35 => ⟨S4608x1024, .i32⟩
  | 36 => ⟨S4608x1024, .i32⟩
  | 37 => ⟨S_, .i32⟩
  | 38 => ⟨S4608, .i32⟩
  | 39 => ⟨S_, .i32⟩
  | 40 => ⟨S4608, .i32⟩
  | 41 => ⟨S4608, .i1⟩
  | 42 => ⟨S_, .i32⟩
  | 43 => ⟨S4608, .i32⟩
  | 44 => ⟨S4608, .i32⟩
  | 45 => ⟨S4608, .i32⟩
  | 46 => ⟨S4608x1, .i32⟩
  | 47 => ⟨S1, .i32⟩
  | 48 => ⟨S_, .i32⟩
  | 49 => ⟨S4608x1, .i32⟩
  | 50 => ⟨S4608x1, .i1⟩
  | 51 => ⟨S1x1, .i32⟩
  | 52 => ⟨S4608x1, .i32⟩
  | 53 => ⟨S4608x1, .i1⟩
  | 54 => ⟨S4608x1, .i1⟩
  | 55 => ⟨S_, .i1⟩
  | 56 => ⟨S4608, .i1⟩
  | 57 => ⟨S4608x256, .f32⟩
  | 58 => ⟨S4608x256, .i1⟩
  | 59 => ⟨S_, .f32⟩
  | 60 => ⟨S4608x256, .f32⟩
  | 61 => ⟨S4608x256, .f32⟩
  | 62 => ⟨S4608x256, .f32⟩
  | 63 => ⟨S4608x256, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .i32⟩
  | 71 => ⟨S1024, .i32⟩
  | 72 => ⟨S_, .i32⟩
  | 73 => ⟨S_, .i32⟩
  | 74 => ⟨S4608, .i32⟩
  | 75 => ⟨S4608, .i32⟩
  | 76 => ⟨S_, .i32⟩
  | 77 => ⟨S4608, .i32⟩
  | 78 => ⟨S4608, .i1⟩
  | 79 => ⟨S_, .i32⟩
  | 80 => ⟨S4608, .i32⟩
  | 81 => ⟨S4608, .i32⟩
  | 82 => ⟨S4608, .i32⟩
  | 83 => ⟨S4608x1, .i32⟩
  | 84 => ⟨S_, .i32⟩
  | 85 => ⟨S4608, .i32⟩
  | 86 => ⟨S1024, .i32⟩
  | 87 => ⟨S1024, .f32⟩
  | 88 => ⟨S_, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S1024, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S4608x256, .f32⟩
  | 103 => ⟨S4608x256, .f32⟩
  | 104 => ⟨S1x1024x256, .f32⟩
  | 105 => ⟨S1024x256, .f32⟩
  | 106 => ⟨S4608x256, .f32⟩
  | 107 => ⟨S_, .f32⟩
  | 108 => ⟨S4608, .f32⟩
  | 109 => ⟨S4608x1, .f32⟩
  | 110 => ⟨S256x1024, .f32⟩
  | 111 => ⟨S4608x1024, .f32⟩
  | 112 => ⟨S_, .f32⟩
  | 113 => ⟨S4608x1024, .f32⟩
  | 114 => ⟨S4608x1024, .f32⟩
  | 115 => ⟨S4608x1024, .f32⟩
  | 116 => ⟨S4608x1024, .f32⟩
  | 117 => ⟨S1024x256, .f32⟩
  | 118 => ⟨S_, .f32⟩
  | 119 => ⟨S1024, .f32⟩
  | 120 => ⟨S1x1024, .f32⟩
  | 121 => ⟨S4608x1024, .f32⟩
  | 122 => ⟨S4608x1024, .f32⟩
  | 123 => ⟨S_, .f32⟩
  | 124 => ⟨S4608, .f32⟩
  | 125 => ⟨S4608x1, .f32⟩
  | 126 => ⟨S1024, .i32⟩
  | 127 => ⟨S1x1024, .i32⟩
  | _ => ⟨S8x576x256, .f32⟩

abbrev hbmTy0_1 (i : Nat) : BufTy := match i % 128 with
  | 0 => ⟨S4608x1024, .f32⟩
  | 1 => ⟨S4608x1024, .i1⟩
  | 2 => ⟨S_, .i32⟩
  | 3 => ⟨S_, .i32⟩
  | 4 => ⟨S4608x1024, .i32⟩
  | 5 => ⟨S4608x1024, .i32⟩
  | 6 => ⟨S4608x1024, .i32⟩
  | 7 => ⟨S_, .i32⟩
  | 8 => ⟨S4608, .i32⟩
  | 9 => ⟨S_, .i32⟩
  | 10 => ⟨S4608, .i32⟩
  | 11 => ⟨S4608, .i1⟩
  | 12 => ⟨S_, .i32⟩
  | 13 => ⟨S4608, .i32⟩
  | 14 => ⟨S4608, .i32⟩
  | 15 => ⟨S4608, .i32⟩
  | 16 => ⟨S4608x1, .i32⟩
  | 17 => ⟨S1, .i32⟩
  | 18 => ⟨S_, .i32⟩
  | 19 => ⟨S4608x1, .i32⟩
  | 20 => ⟨S4608x1, .i1⟩
  | 21 => ⟨S1x1, .i32⟩
  | 22 => ⟨S4608x1, .i32⟩
  | 23 => ⟨S4608x1, .i1⟩
  | 24 => ⟨S4608x1, .i1⟩
  | 25 => ⟨S_, .i1⟩
  | 26 => ⟨S4608, .i1⟩
  | 27 => ⟨S4608x256, .f32⟩
  | 28 => ⟨S4608x256, .i1⟩
  | 29 => ⟨S_, .f32⟩
  | 30 => ⟨S4608x256, .f32⟩
  | 31 => ⟨S4608x256, .f32⟩
  | 32 => ⟨S4608x256, .f32⟩
  | 33 => ⟨S4608x256, .f32⟩
  | 34 => ⟨S_, .f32⟩
  | 35 => ⟨S_, .f32⟩
  | 36 => ⟨S_, .f32⟩
  | 37 => ⟨S_, .f32⟩
  | 38 => ⟨S_, .f32⟩
  | 39 => ⟨S_, .i32⟩
  | 40 => ⟨S1024, .i32⟩
  | 41 => ⟨S_, .i32⟩
  | 42 => ⟨S_, .i32⟩
  | 43 => ⟨S4608, .i32⟩
  | 44 => ⟨S4608, .i32⟩
  | 45 => ⟨S_, .i32⟩
  | 46 => ⟨S4608, .i32⟩
  | 47 => ⟨S4608, .i1⟩
  | 48 => ⟨S_, .i32⟩
  | 49 => ⟨S4608, .i32⟩
  | 50 => ⟨S4608, .i32⟩
  | 51 => ⟨S4608, .i32⟩
  | 52 => ⟨S4608x1, .i32⟩
  | 53 => ⟨S_, .i32⟩
  | 54 => ⟨S4608, .i32⟩
  | 55 => ⟨S1024, .i32⟩
  | 56 => ⟨S1024, .f32⟩
  | 57 => ⟨S_, .f32⟩
  | 58 => ⟨S1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S1024, .f32⟩
  | 65 => ⟨S_, .f32⟩
  | 66 => ⟨S_, .f32⟩
  | 67 => ⟨S_, .f32⟩
  | 68 => ⟨S_, .f32⟩
  | 69 => ⟨S_, .f32⟩
  | 70 => ⟨S4608x256, .f32⟩
  | 71 => ⟨S4608x256, .f32⟩
  | 72 => ⟨S1x1024x256, .f32⟩
  | 73 => ⟨S1024x256, .f32⟩
  | 74 => ⟨S4608x256, .f32⟩
  | 75 => ⟨S_, .f32⟩
  | 76 => ⟨S4608, .f32⟩
  | 77 => ⟨S4608x1, .f32⟩
  | 78 => ⟨S256x1024, .f32⟩
  | 79 => ⟨S4608x1024, .f32⟩
  | 80 => ⟨S_, .f32⟩
  | 81 => ⟨S4608x1024, .f32⟩
  | 82 => ⟨S4608x1024, .f32⟩
  | 83 => ⟨S4608x1024, .f32⟩
  | 84 => ⟨S4608x1024, .f32⟩
  | 85 => ⟨S1024x256, .f32⟩
  | 86 => ⟨S_, .f32⟩
  | 87 => ⟨S1024, .f32⟩
  | 88 => ⟨S1x1024, .f32⟩
  | 89 => ⟨S4608x1024, .f32⟩
  | 90 => ⟨S4608x1024, .f32⟩
  | 91 => ⟨S_, .f32⟩
  | 92 => ⟨S4608, .f32⟩
  | 93 => ⟨S4608x1, .f32⟩
  | 94 => ⟨S1024, .i32⟩
  | 95 => ⟨S1x1024, .i32⟩
  | 96 => ⟨S4608x1024, .f32⟩
  | 97 => ⟨S4608x1024, .i1⟩
  | 98 => ⟨S_, .i32⟩
  | 99 => ⟨S_, .i32⟩
  | 100 => ⟨S4608x1024, .i32⟩
  | 101 => ⟨S4608x1024, .i32⟩
  | 102 => ⟨S4608x1024, .i32⟩
  | 103 => ⟨S_, .i32⟩
  | 104 => ⟨S4608, .i32⟩
  | 105 => ⟨S_, .i32⟩
  | 106 => ⟨S4608, .i32⟩
  | 107 => ⟨S4608, .i1⟩
  | 108 => ⟨S_, .i32⟩
  | 109 => ⟨S4608, .i32⟩
  | 110 => ⟨S4608, .i32⟩
  | 111 => ⟨S4608, .i32⟩
  | 112 => ⟨S4608x1, .i32⟩
  | 113 => ⟨S1, .i32⟩
  | 114 => ⟨S_, .i32⟩
  | 115 => ⟨S4608x1, .i32⟩
  | 116 => ⟨S4608x1, .i1⟩
  | 117 => ⟨S1x1, .i32⟩
  | 118 => ⟨S4608x1, .i32⟩
  | 119 => ⟨S4608x1, .i1⟩
  | 120 => ⟨S4608x1, .i1⟩
  | 121 => ⟨S_, .i1⟩
  | 122 => ⟨S4608, .i1⟩
  | 123 => ⟨S4608x256, .f32⟩
  | 124 => ⟨S4608x256, .i1⟩
  | 125 => ⟨S_, .f32⟩
  | 126 => ⟨S4608x256, .f32⟩
  | 127 => ⟨S4608x256, .f32⟩
  | _ => ⟨S8x576x256, .f32⟩

abbrev hbmTy0_2 (i : Nat) : BufTy := match i % 128 with
  | 0 => ⟨S4608x256, .f32⟩
  | 1 => ⟨S4608x256, .f32⟩
  | 2 => ⟨S_, .f32⟩
  | 3 => ⟨S_, .f32⟩
  | 4 => ⟨S_, .f32⟩
  | 5 => ⟨S_, .f32⟩
  | 6 => ⟨S_, .f32⟩
  | 7 => ⟨S_, .i32⟩
  | 8 => ⟨S1024, .i32⟩
  | 9 => ⟨S_, .i32⟩
  | 10 => ⟨S_, .i32⟩
  | 11 => ⟨S4608, .i32⟩
  | 12 => ⟨S4608, .i32⟩
  | 13 => ⟨S_, .i32⟩
  | 14 => ⟨S4608, .i32⟩
  | 15 => ⟨S4608, .i1⟩
  | 16 => ⟨S_, .i32⟩
  | 17 => ⟨S4608, .i32⟩
  | 18 => ⟨S4608, .i32⟩
  | 19 => ⟨S4608, .i32⟩
  | 20 => ⟨S4608x1, .i32⟩
  | 21 => ⟨S_, .i32⟩
  | 22 => ⟨S4608, .i32⟩
  | 23 => ⟨S1024, .i32⟩
  | 24 => ⟨S1024, .f32⟩
  | 25 => ⟨S_, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S1024, .f32⟩
  | 33 => ⟨S_, .f32⟩
  | 34 => ⟨S_, .f32⟩
  | 35 => ⟨S_, .f32⟩
  | 36 => ⟨S_, .f32⟩
  | 37 => ⟨S_, .f32⟩
  | 38 => ⟨S4608x256, .f32⟩
  | 39 => ⟨S4608x256, .f32⟩
  | 40 => ⟨S1x1024x256, .f32⟩
  | 41 => ⟨S1024x256, .f32⟩
  | 42 => ⟨S4608x256, .f32⟩
  | 43 => ⟨S_, .f32⟩
  | 44 => ⟨S4608, .f32⟩
  | 45 => ⟨S4608x1, .f32⟩
  | 46 => ⟨S256x1024, .f32⟩
  | 47 => ⟨S4608x1024, .f32⟩
  | 48 => ⟨S_, .f32⟩
  | 49 => ⟨S4608x1024, .f32⟩
  | 50 => ⟨S4608x1024, .f32⟩
  | 51 => ⟨S4608x1024, .f32⟩
  | 52 => ⟨S4608x1024, .f32⟩
  | 53 => ⟨S1024x256, .f32⟩
  | 54 => ⟨S_, .f32⟩
  | 55 => ⟨S1024, .f32⟩
  | 56 => ⟨S1x1024, .f32⟩
  | 57 => ⟨S4608x1024, .f32⟩
  | 58 => ⟨S4608x1024, .f32⟩
  | 59 => ⟨S_, .f32⟩
  | 60 => ⟨S4608, .f32⟩
  | 61 => ⟨S4608x1, .f32⟩
  | 62 => ⟨S1024, .i32⟩
  | 63 => ⟨S1x1024, .i32⟩
  | 64 => ⟨S4608x1024, .f32⟩
  | 65 => ⟨S4608x1024, .i1⟩
  | 66 => ⟨S_, .i32⟩
  | 67 => ⟨S_, .i32⟩
  | 68 => ⟨S4608x1024, .i32⟩
  | 69 => ⟨S4608x1024, .i32⟩
  | 70 => ⟨S4608x1024, .i32⟩
  | 71 => ⟨S_, .i32⟩
  | 72 => ⟨S4608, .i32⟩
  | 73 => ⟨S_, .i32⟩
  | 74 => ⟨S4608, .i32⟩
  | 75 => ⟨S4608, .i1⟩
  | 76 => ⟨S_, .i32⟩
  | 77 => ⟨S4608, .i32⟩
  | 78 => ⟨S4608, .i32⟩
  | 79 => ⟨S4608, .i32⟩
  | 80 => ⟨S4608x1, .i32⟩
  | 81 => ⟨S1, .i32⟩
  | 82 => ⟨S_, .i32⟩
  | 83 => ⟨S4608x1, .i32⟩
  | 84 => ⟨S4608x1, .i1⟩
  | 85 => ⟨S1x1, .i32⟩
  | 86 => ⟨S4608x1, .i32⟩
  | 87 => ⟨S4608x1, .i1⟩
  | 88 => ⟨S4608x1, .i1⟩
  | 89 => ⟨S_, .i1⟩
  | 90 => ⟨S4608, .i1⟩
  | 91 => ⟨S4608x256, .f32⟩
  | 92 => ⟨S4608x256, .i1⟩
  | 93 => ⟨S_, .f32⟩
  | 94 => ⟨S4608x256, .f32⟩
  | 95 => ⟨S4608x256, .f32⟩
  | 96 => ⟨S4608x256, .f32⟩
  | 97 => ⟨S4608x256, .f32⟩
  | 98 => ⟨S_, .f32⟩
  | 99 => ⟨S_, .f32⟩
  | 100 => ⟨S_, .f32⟩
  | 101 => ⟨S_, .f32⟩
  | 102 => ⟨S_, .f32⟩
  | 103 => ⟨S_, .i32⟩
  | 104 => ⟨S1024, .i32⟩
  | 105 => ⟨S_, .i32⟩
  | 106 => ⟨S_, .i32⟩
  | 107 => ⟨S4608, .i32⟩
  | 108 => ⟨S4608, .i32⟩
  | 109 => ⟨S_, .i32⟩
  | 110 => ⟨S4608, .i32⟩
  | 111 => ⟨S4608, .i1⟩
  | 112 => ⟨S_, .i32⟩
  | 113 => ⟨S4608, .i32⟩
  | 114 => ⟨S4608, .i32⟩
  | 115 => ⟨S4608, .i32⟩
  | 116 => ⟨S4608x1, .i32⟩
  | 117 => ⟨S_, .i32⟩
  | 118 => ⟨S4608, .i32⟩
  | 119 => ⟨S1024, .i32⟩
  | 120 => ⟨S1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S8x576x256, .f32⟩

abbrev hbmTy0_3 (i : Nat) : BufTy := match i % 128 with
  | 0 => ⟨S1024, .f32⟩
  | 1 => ⟨S_, .f32⟩
  | 2 => ⟨S_, .f32⟩
  | 3 => ⟨S_, .f32⟩
  | 4 => ⟨S_, .f32⟩
  | 5 => ⟨S_, .f32⟩
  | 6 => ⟨S4608x256, .f32⟩
  | 7 => ⟨S4608x256, .f32⟩
  | 8 => ⟨S1x1024x256, .f32⟩
  | 9 => ⟨S1024x256, .f32⟩
  | 10 => ⟨S4608x256, .f32⟩
  | 11 => ⟨S_, .f32⟩
  | 12 => ⟨S4608, .f32⟩
  | 13 => ⟨S4608x1, .f32⟩
  | 14 => ⟨S256x1024, .f32⟩
  | 15 => ⟨S4608x1024, .f32⟩
  | 16 => ⟨S_, .f32⟩
  | 17 => ⟨S4608x1024, .f32⟩
  | 18 => ⟨S4608x1024, .f32⟩
  | 19 => ⟨S4608x1024, .f32⟩
  | 20 => ⟨S4608x1024, .f32⟩
  | 21 => ⟨S1024x256, .f32⟩
  | 22 => ⟨S_, .f32⟩
  | 23 => ⟨S1024, .f32⟩
  | 24 => ⟨S1x1024, .f32⟩
  | 25 => ⟨S4608x1024, .f32⟩
  | 26 => ⟨S4608x1024, .f32⟩
  | 27 => ⟨S_, .f32⟩
  | 28 => ⟨S4608, .f32⟩
  | 29 => ⟨S4608x1, .f32⟩
  | 30 => ⟨S1024, .i32⟩
  | 31 => ⟨S1x1024, .i32⟩
  | 32 => ⟨S4608x1024, .f32⟩
  | 33 => ⟨S4608x1024, .i1⟩
  | 34 => ⟨S_, .i32⟩
  | 35 => ⟨S_, .i32⟩
  | 36 => ⟨S4608x1024, .i32⟩
  | 37 => ⟨S4608x1024, .i32⟩
  | 38 => ⟨S4608x1024, .i32⟩
  | 39 => ⟨S_, .i32⟩
  | 40 => ⟨S4608, .i32⟩
  | 41 => ⟨S_, .i32⟩
  | 42 => ⟨S4608, .i32⟩
  | 43 => ⟨S4608, .i1⟩
  | 44 => ⟨S_, .i32⟩
  | 45 => ⟨S4608, .i32⟩
  | 46 => ⟨S4608, .i32⟩
  | 47 => ⟨S4608, .i32⟩
  | 48 => ⟨S4608x1, .i32⟩
  | 49 => ⟨S1, .i32⟩
  | 50 => ⟨S_, .i32⟩
  | 51 => ⟨S4608x1, .i32⟩
  | 52 => ⟨S4608x1, .i1⟩
  | 53 => ⟨S1x1, .i32⟩
  | 54 => ⟨S4608x1, .i32⟩
  | 55 => ⟨S4608x1, .i1⟩
  | 56 => ⟨S4608x1, .i1⟩
  | 57 => ⟨S_, .i1⟩
  | 58 => ⟨S4608, .i1⟩
  | 59 => ⟨S4608x256, .f32⟩
  | 60 => ⟨S4608x256, .i1⟩
  | 61 => ⟨S_, .f32⟩
  | 62 => ⟨S4608x256, .f32⟩
  | 63 => ⟨S4608x256, .f32⟩
  | 64 => ⟨S4608x256, .f32⟩
  | 65 => ⟨S4608x256, .f32⟩
  | 66 => ⟨S_, .f32⟩
  | 67 => ⟨S_, .f32⟩
  | 68 => ⟨S_, .f32⟩
  | 69 => ⟨S_, .f32⟩
  | 70 => ⟨S_, .f32⟩
  | 71 => ⟨S_, .i32⟩
  | 72 => ⟨S1024, .i32⟩
  | 73 => ⟨S_, .i32⟩
  | 74 => ⟨S_, .i32⟩
  | 75 => ⟨S4608, .i32⟩
  | 76 => ⟨S4608, .i32⟩
  | 77 => ⟨S_, .i32⟩
  | 78 => ⟨S4608, .i32⟩
  | 79 => ⟨S4608, .i1⟩
  | 80 => ⟨S_, .i32⟩
  | 81 => ⟨S4608, .i32⟩
  | 82 => ⟨S4608, .i32⟩
  | 83 => ⟨S4608, .i32⟩
  | 84 => ⟨S4608x1, .i32⟩
  | 85 => ⟨S_, .i32⟩
  | 86 => ⟨S4608, .i32⟩
  | 87 => ⟨S1024, .i32⟩
  | 88 => ⟨S1024, .f32⟩
  | 89 => ⟨S_, .f32⟩
  | 90 => ⟨S1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S1024, .f32⟩
  | 97 => ⟨S_, .f32⟩
  | 98 => ⟨S_, .f32⟩
  | 99 => ⟨S_, .f32⟩
  | 100 => ⟨S_, .f32⟩
  | 101 => ⟨S_, .f32⟩
  | 102 => ⟨S4608x256, .f32⟩
  | 103 => ⟨S4608x256, .f32⟩
  | 104 => ⟨S1x1024x256, .f32⟩
  | 105 => ⟨S1024x256, .f32⟩
  | 106 => ⟨S4608x256, .f32⟩
  | 107 => ⟨S_, .f32⟩
  | 108 => ⟨S4608, .f32⟩
  | 109 => ⟨S4608x1, .f32⟩
  | 110 => ⟨S256x1024, .f32⟩
  | 111 => ⟨S4608x1024, .f32⟩
  | 112 => ⟨S_, .f32⟩
  | 113 => ⟨S4608x1024, .f32⟩
  | 114 => ⟨S4608x1024, .f32⟩
  | 115 => ⟨S4608x1024, .f32⟩
  | 116 => ⟨S4608x1024, .f32⟩
  | 117 => ⟨S1024x256, .f32⟩
  | 118 => ⟨S_, .f32⟩
  | 119 => ⟨S1024, .f32⟩
  | 120 => ⟨S1x1024, .f32⟩
  | 121 => ⟨S4608x1024, .f32⟩
  | 122 => ⟨S4608x1024, .f32⟩
  | 123 => ⟨S_, .f32⟩
  | 124 => ⟨S4608, .f32⟩
  | 125 => ⟨S4608x1, .f32⟩
  | 126 => ⟨S1024, .i32⟩
  | 127 => ⟨S1x1024, .i32⟩
  | _ => ⟨S8x576x256, .f32⟩

abbrev hbmTy0_4 (i : Nat) : BufTy := match i % 128 with
  | 0 => ⟨S4608x1024, .f32⟩
  | 1 => ⟨S4608x1024, .i1⟩
  | 2 => ⟨S_, .i32⟩
  | 3 => ⟨S_, .i32⟩
  | 4 => ⟨S4608x1024, .i32⟩
  | 5 => ⟨S4608x1024, .i32⟩
  | 6 => ⟨S4608x1024, .i32⟩
  | 7 => ⟨S_, .i32⟩
  | 8 => ⟨S4608, .i32⟩
  | 9 => ⟨S_, .i32⟩
  | 10 => ⟨S4608, .i32⟩
  | 11 => ⟨S4608, .i1⟩
  | 12 => ⟨S_, .i32⟩
  | 13 => ⟨S4608, .i32⟩
  | 14 => ⟨S4608, .i32⟩
  | 15 => ⟨S4608, .i32⟩
  | 16 => ⟨S4608x1, .i32⟩
  | 17 => ⟨S1, .i32⟩
  | 18 => ⟨S_, .i32⟩
  | 19 => ⟨S4608x1, .i32⟩
  | 20 => ⟨S4608x1, .i1⟩
  | 21 => ⟨S1x1, .i32⟩
  | 22 => ⟨S4608x1, .i32⟩
  | 23 => ⟨S4608x1, .i1⟩
  | 24 => ⟨S4608x1, .i1⟩
  | 25 => ⟨S_, .i1⟩
  | 26 => ⟨S4608, .i1⟩
  | 27 => ⟨S4608x256, .f32⟩
  | 28 => ⟨S4608x256, .i1⟩
  | 29 => ⟨S_, .f32⟩
  | 30 => ⟨S4608x256, .f32⟩
  | 31 => ⟨S4608x256, .f32⟩
  | 32 => ⟨S4608x256, .f32⟩
  | 33 => ⟨S4608x256, .f32⟩
  | 34 => ⟨S_, .f32⟩
  | 35 => ⟨S_, .f32⟩
  | 36 => ⟨S_, .f32⟩
  | 37 => ⟨S_, .f32⟩
  | 38 => ⟨S_, .f32⟩
  | 39 => ⟨S_, .i32⟩
  | 40 => ⟨S1024, .i32⟩
  | 41 => ⟨S_, .i32⟩
  | 42 => ⟨S_, .i32⟩
  | 43 => ⟨S4608, .i32⟩
  | 44 => ⟨S4608, .i32⟩
  | 45 => ⟨S_, .i32⟩
  | 46 => ⟨S4608, .i32⟩
  | 47 => ⟨S4608, .i1⟩
  | 48 => ⟨S_, .i32⟩
  | 49 => ⟨S4608, .i32⟩
  | 50 => ⟨S4608, .i32⟩
  | 51 => ⟨S4608, .i32⟩
  | 52 => ⟨S4608x1, .i32⟩
  | 53 => ⟨S_, .i32⟩
  | 54 => ⟨S4608, .i32⟩
  | 55 => ⟨S1024, .i32⟩
  | 56 => ⟨S1024, .f32⟩
  | 57 => ⟨S_, .f32⟩
  | 58 => ⟨S1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S1024, .f32⟩
  | 65 => ⟨S_, .f32⟩
  | 66 => ⟨S_, .f32⟩
  | 67 => ⟨S_, .f32⟩
  | 68 => ⟨S_, .f32⟩
  | 69 => ⟨S_, .f32⟩
  | 70 => ⟨S4608x256, .f32⟩
  | 71 => ⟨S4608x256, .f32⟩
  | 72 => ⟨S1x1024x256, .f32⟩
  | 73 => ⟨S1024x256, .f32⟩
  | 74 => ⟨S4608x256, .f32⟩
  | 75 => ⟨S_, .f32⟩
  | 76 => ⟨S4608, .f32⟩
  | 77 => ⟨S4608x1, .f32⟩
  | 78 => ⟨S256x1024, .f32⟩
  | 79 => ⟨S4608x1024, .f32⟩
  | 80 => ⟨S_, .f32⟩
  | 81 => ⟨S4608x1024, .f32⟩
  | 82 => ⟨S4608x1024, .f32⟩
  | 83 => ⟨S4608x1024, .f32⟩
  | 84 => ⟨S4608x1024, .f32⟩
  | 85 => ⟨S1024x256, .f32⟩
  | 86 => ⟨S_, .f32⟩
  | 87 => ⟨S1024, .f32⟩
  | 88 => ⟨S1x1024, .f32⟩
  | 89 => ⟨S4608x1024, .f32⟩
  | 90 => ⟨S4608x1024, .f32⟩
  | 91 => ⟨S_, .f32⟩
  | 92 => ⟨S4608, .f32⟩
  | 93 => ⟨S4608x1, .f32⟩
  | 94 => ⟨S1024, .i32⟩
  | 95 => ⟨S1x1024, .i32⟩
  | 96 => ⟨S4608x1024, .f32⟩
  | 97 => ⟨S4608x1024, .i1⟩
  | 98 => ⟨S_, .i32⟩
  | 99 => ⟨S_, .i32⟩
  | 100 => ⟨S4608x1024, .i32⟩
  | 101 => ⟨S4608x1024, .i32⟩
  | 102 => ⟨S4608x1024, .i32⟩
  | 103 => ⟨S_, .i32⟩
  | 104 => ⟨S4608, .i32⟩
  | 105 => ⟨S_, .i32⟩
  | 106 => ⟨S4608, .i32⟩
  | 107 => ⟨S4608, .i1⟩
  | 108 => ⟨S_, .i32⟩
  | 109 => ⟨S4608, .i32⟩
  | 110 => ⟨S4608, .i32⟩
  | 111 => ⟨S4608, .i32⟩
  | 112 => ⟨S4608x1, .i32⟩
  | 113 => ⟨S1, .i32⟩
  | 114 => ⟨S_, .i32⟩
  | 115 => ⟨S4608x1, .i32⟩
  | 116 => ⟨S4608x1, .i1⟩
  | 117 => ⟨S1x1, .i32⟩
  | 118 => ⟨S4608x1, .i32⟩
  | 119 => ⟨S4608x1, .i1⟩
  | 120 => ⟨S4608x1, .i1⟩
  | 121 => ⟨S_, .i1⟩
  | 122 => ⟨S4608, .i1⟩
  | 123 => ⟨S4608x256, .f32⟩
  | 124 => ⟨S4608x256, .i1⟩
  | 125 => ⟨S_, .f32⟩
  | 126 => ⟨S4608x256, .f32⟩
  | 127 => ⟨S4608x256, .f32⟩
  | _ => ⟨S8x576x256, .f32⟩

abbrev hbmTy0_5 (i : Nat) : BufTy := match i % 128 with
  | 0 => ⟨S4608x256, .f32⟩
  | 1 => ⟨S4608x256, .f32⟩
  | 2 => ⟨S_, .f32⟩
  | 3 => ⟨S_, .f32⟩
  | 4 => ⟨S_, .f32⟩
  | 5 => ⟨S_, .f32⟩
  | 6 => ⟨S_, .f32⟩
  | 7 => ⟨S_, .i32⟩
  | 8 => ⟨S1024, .i32⟩
  | 9 => ⟨S_, .i32⟩
  | 10 => ⟨S_, .i32⟩
  | 11 => ⟨S4608, .i32⟩
  | 12 => ⟨S4608, .i32⟩
  | 13 => ⟨S_, .i32⟩
  | 14 => ⟨S4608, .i32⟩
  | 15 => ⟨S4608, .i1⟩
  | 16 => ⟨S_, .i32⟩
  | 17 => ⟨S4608, .i32⟩
  | 18 => ⟨S4608, .i32⟩
  | 19 => ⟨S4608, .i32⟩
  | 20 => ⟨S4608x1, .i32⟩
  | 21 => ⟨S_, .i32⟩
  | 22 => ⟨S4608, .i32⟩
  | 23 => ⟨S1024, .i32⟩
  | 24 => ⟨S1024, .f32⟩
  | 25 => ⟨S_, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S1024, .f32⟩
  | 33 => ⟨S_, .f32⟩
  | 34 => ⟨S_, .f32⟩
  | 35 => ⟨S_, .f32⟩
  | 36 => ⟨S_, .f32⟩
  | 37 => ⟨S_, .f32⟩
  | 38 => ⟨S4608x256, .f32⟩
  | 39 => ⟨S4608x256, .f32⟩
  | 40 => ⟨S1x1024x256, .f32⟩
  | 41 => ⟨S1024x256, .f32⟩
  | 42 => ⟨S4608x256, .f32⟩
  | 43 => ⟨S_, .f32⟩
  | 44 => ⟨S4608, .f32⟩
  | 45 => ⟨S4608x1, .f32⟩
  | 46 => ⟨S256x1024, .f32⟩
  | 47 => ⟨S4608x1024, .f32⟩
  | 48 => ⟨S_, .f32⟩
  | 49 => ⟨S4608x1024, .f32⟩
  | 50 => ⟨S4608x1024, .f32⟩
  | 51 => ⟨S4608x1024, .f32⟩
  | 52 => ⟨S4608x1024, .f32⟩
  | 53 => ⟨S1024x256, .f32⟩
  | 54 => ⟨S_, .f32⟩
  | 55 => ⟨S1024, .f32⟩
  | 56 => ⟨S1x1024, .f32⟩
  | 57 => ⟨S4608x1024, .f32⟩
  | 58 => ⟨S4608x1024, .f32⟩
  | 59 => ⟨S_, .f32⟩
  | 60 => ⟨S4608, .f32⟩
  | 61 => ⟨S4608x1, .f32⟩
  | 62 => ⟨S1024, .i32⟩
  | 63 => ⟨S1x1024, .i32⟩
  | 64 => ⟨S4608x1024, .f32⟩
  | 65 => ⟨S4608x1024, .i1⟩
  | 66 => ⟨S_, .i32⟩
  | 67 => ⟨S_, .i32⟩
  | 68 => ⟨S4608x1024, .i32⟩
  | 69 => ⟨S4608x1024, .i32⟩
  | 70 => ⟨S4608x1024, .i32⟩
  | 71 => ⟨S_, .i32⟩
  | 72 => ⟨S4608, .i32⟩
  | 73 => ⟨S_, .i32⟩
  | 74 => ⟨S4608, .i32⟩
  | 75 => ⟨S4608, .i1⟩
  | 76 => ⟨S_, .i32⟩
  | 77 => ⟨S4608, .i32⟩
  | 78 => ⟨S4608, .i32⟩
  | 79 => ⟨S4608, .i32⟩
  | 80 => ⟨S4608x1, .i32⟩
  | 81 => ⟨S1, .i32⟩
  | 82 => ⟨S_, .i32⟩
  | 83 => ⟨S4608x1, .i32⟩
  | 84 => ⟨S4608x1, .i1⟩
  | 85 => ⟨S1x1, .i32⟩
  | 86 => ⟨S4608x1, .i32⟩
  | 87 => ⟨S4608x1, .i1⟩
  | 88 => ⟨S4608x1, .i1⟩
  | 89 => ⟨S_, .i1⟩
  | 90 => ⟨S4608, .i1⟩
  | 91 => ⟨S4608x256, .f32⟩
  | 92 => ⟨S4608x256, .i1⟩
  | 93 => ⟨S_, .f32⟩
  | 94 => ⟨S4608x256, .f32⟩
  | 95 => ⟨S4608x256, .f32⟩
  | 96 => ⟨S4608x256, .f32⟩
  | 97 => ⟨S4608x256, .f32⟩
  | 98 => ⟨S_, .f32⟩
  | 99 => ⟨S_, .f32⟩
  | 100 => ⟨S_, .f32⟩
  | 101 => ⟨S_, .f32⟩
  | 102 => ⟨S_, .f32⟩
  | 103 => ⟨S_, .i32⟩
  | 104 => ⟨S1024, .i32⟩
  | 105 => ⟨S_, .i32⟩
  | 106 => ⟨S_, .i32⟩
  | 107 => ⟨S4608, .i32⟩
  | 108 => ⟨S4608, .i32⟩
  | 109 => ⟨S_, .i32⟩
  | 110 => ⟨S4608, .i32⟩
  | 111 => ⟨S4608, .i1⟩
  | 112 => ⟨S_, .i32⟩
  | 113 => ⟨S4608, .i32⟩
  | 114 => ⟨S4608, .i32⟩
  | 115 => ⟨S4608, .i32⟩
  | 116 => ⟨S4608x1, .i32⟩
  | 117 => ⟨S_, .i32⟩
  | 118 => ⟨S4608, .i32⟩
  | 119 => ⟨S1024, .i32⟩
  | 120 => ⟨S1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S8x576x256, .f32⟩

abbrev hbmTy0_6 (i : Nat) : BufTy := match i % 128 with
  | 0 => ⟨S1024, .f32⟩
  | 1 => ⟨S_, .f32⟩
  | 2 => ⟨S_, .f32⟩
  | 3 => ⟨S_, .f32⟩
  | 4 => ⟨S_, .f32⟩
  | 5 => ⟨S_, .f32⟩
  | 6 => ⟨S4608x256, .f32⟩
  | 7 => ⟨S4608x256, .f32⟩
  | 8 => ⟨S4608x1, .i32⟩
  | 9 => ⟨S4608x1, .i32⟩
  | 10 => ⟨S4608x1, .i32⟩
  | 11 => ⟨S4608x1, .i32⟩
  | 12 => ⟨S4608x1, .i32⟩
  | 13 => ⟨S4608x1, .i32⟩
  | 14 => ⟨S4608x1, .i32⟩
  | 15 => ⟨S4608x1, .i32⟩
  | 16 => ⟨S4608x8, .i32⟩
  | 17 => ⟨S8x576x8, .i32⟩
  | 18 => ⟨S8x576x256, .f32⟩
  | 19 => ⟨S8x576x256, .f32⟩
  | 20 => ⟨S8x576x256, .f32⟩
  | 21 => ⟨S_, .f32⟩
  | 22 => ⟨S_, .f32⟩
  | 23 => ⟨S_, .f32⟩
  | 24 => ⟨S_, .f32⟩
  | _ => ⟨S8x576x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x576x256, .f32⟩

abbrev bufTy : (tb : Table) → Fin (tcTables nBuf tb) → BufTy
  | .hbm, ⟨i, _⟩ => hbmTy i
  | _, _ => ⟨S8x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_cst_6 : Ref sig .tc := ⟨.hbm, 66, rfl⟩
abbrev main_v31 : Ref sig .tc := ⟨.hbm, 67, rfl⟩
abbrev main_cst_7 : Ref sig .tc := ⟨.hbm, 68, rfl⟩
abbrev main_v32 : Ref sig .tc := ⟨.hbm, 69, rfl⟩
abbrev main_c_8 : Ref sig .tc := ⟨.hbm, 70, rfl⟩
abbrev main_v33 : Ref sig .tc := ⟨.hbm, 71, rfl⟩
abbrev main_c_9 : Ref sig .tc := ⟨.hbm, 72, rfl⟩
abbrev main_call2_v0 : Ref sig .tc := ⟨.hbm, 73, rfl⟩
abbrev main_call2_v1 : Ref sig .tc := ⟨.hbm, 74, rfl⟩
abbrev main_v34 : Ref sig .tc := ⟨.hbm, 75, rfl⟩
abbrev main_c_10 : Ref sig .tc := ⟨.hbm, 76, rfl⟩
abbrev main_v35 : Ref sig .tc := ⟨.hbm, 77, rfl⟩
abbrev main_v36 : Ref sig .tc := ⟨.hbm, 78, rfl⟩
abbrev main_c_11 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_12 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_13 : Ref sig .tc := ⟨.hbm, 88, rfl⟩
abbrev main_v44 : Ref sig .tc := ⟨.hbm, 89, rfl⟩
abbrev main_v45 : Ref sig .tc := ⟨.hbm, 90, rfl⟩
abbrev main_cst_14 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_15 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_16 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_17 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_18 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_19 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_20 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_21 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v78 : Ref sig .tc := ⟨.hbm, 134, rfl⟩
abbrev main_c_22 : Ref sig .tc := ⟨.hbm, 135, rfl⟩
abbrev main_v79 : Ref sig .tc := ⟨.hbm, 136, rfl⟩
abbrev main_call4_c : Ref sig .tc := ⟨.hbm, 137, rfl⟩
abbrev main_call4_v0 : Ref sig .tc := ⟨.hbm, 138, rfl⟩
abbrev main_call4_v1 : Ref sig .tc := ⟨.hbm, 139, rfl⟩
abbrev main_call4_c_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_c_1 : Ref sig .tc := ⟨.hbm, 145, rfl⟩
abbrev main_call4_c_2 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_c_3 : Ref sig .tc := ⟨.hbm, 153, rfl⟩
abbrev main_call4_v12 : Ref sig .tc := ⟨.hbm, 154, rfl⟩
abbrev main_call4_v13 : Ref sig .tc := ⟨.hbm, 155, rfl⟩
abbrev main_call4_v14 : Ref sig .tc := ⟨.hbm, 156, rfl⟩
abbrev main_call4_cst : Ref sig .tc := ⟨.hbm, 157, rfl⟩
abbrev main_call4_v15 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_23 : Ref sig .tc := ⟨.hbm, 162, rfl⟩
abbrev main_v83 : Ref sig .tc := ⟨.hbm, 163, rfl⟩
abbrev main_cst_24 : Ref sig .tc := ⟨.hbm, 164, rfl⟩
abbrev main_v84 : Ref sig .tc := ⟨.hbm, 165, rfl⟩
abbrev main_v85 : Ref sig .tc := ⟨.hbm, 166, rfl⟩
abbrev main_c_25 : Ref sig .tc := ⟨.hbm, 167, rfl⟩
abbrev main_v86 : Ref sig .tc := ⟨.hbm, 168, rfl⟩
abbrev main_c_26 : Ref sig .tc := ⟨.hbm, 169, rfl⟩
abbrev main_call5_v0 : Ref sig .tc := ⟨.hbm, 170, rfl⟩
abbrev main_call5_v1 : Ref sig .tc := ⟨.hbm, 171, rfl⟩
abbrev main_v87 : Ref sig .tc := ⟨.hbm, 172, rfl⟩
abbrev main_c_27 : Ref sig .tc := ⟨.hbm, 173, rfl⟩
abbrev main_v88 : Ref sig .tc := ⟨.hbm, 174, rfl⟩
abbrev main_v89 : Ref sig .tc := ⟨.hbm, 175, rfl⟩
abbrev main_c_28 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_c_29 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_cst_30 : Ref sig .tc := ⟨.hbm, 185, rfl⟩
abbrev main_v97 : Ref sig .tc := ⟨.hbm, 186, rfl⟩
abbrev main_v98 : Ref sig .tc := ⟨.hbm, 187, rfl⟩
abbrev main_cst_31 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_cst_32 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_cst_33 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_cst_34 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_cst_35 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_cst_36 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_c_37 : Ref sig .tc := ⟨.hbm, 226, rfl⟩
abbrev main_call6_v0 : Ref sig .tc := ⟨.hbm, 227, rfl⟩
abbrev main_call6_v1 : Ref sig .tc := ⟨.hbm, 228, rfl⟩
abbrev main_call6_v2 : Ref sig .tc := ⟨.hbm, 229, rfl⟩
abbrev main_v131 : Ref sig .tc := ⟨.hbm, 230, rfl⟩
abbrev main_c_38 : Ref sig .tc := ⟨.hbm, 231, rfl⟩
abbrev main_v132 : Ref sig .tc := ⟨.hbm, 232, rfl⟩
abbrev main_call7_c : Ref sig .tc := ⟨.hbm, 233, rfl⟩
abbrev main_call7_v0 : Ref sig .tc := ⟨.hbm, 234, rfl⟩
abbrev main_call7_v1 : Ref sig .tc := ⟨.hbm, 235, rfl⟩
abbrev main_call7_c_0 : Ref sig .tc := ⟨.hbm, 236, rfl⟩
abbrev main_call7_v2 : Ref sig .tc := ⟨.hbm, 237, rfl⟩
abbrev main_call7_v3 : Ref sig .tc := ⟨.hbm, 238, rfl⟩
abbrev main_call7_v4 : Ref sig .tc := ⟨.hbm, 239, rfl⟩
abbrev main_call7_v5 : Ref sig .tc := ⟨.hbm, 240, rfl⟩
abbrev main_call7_c_1 : Ref sig .tc := ⟨.hbm, 241, rfl⟩
abbrev main_call7_c_2 : Ref sig .tc := ⟨.hbm, 242, rfl⟩
abbrev main_call7_v6 : Ref sig .tc := ⟨.hbm, 243, rfl⟩
abbrev main_call7_v7 : Ref sig .tc := ⟨.hbm, 244, rfl⟩
abbrev main_call7_v8 : Ref sig .tc := ⟨.hbm, 245, rfl⟩
abbrev main_call7_v9 : Ref sig .tc := ⟨.hbm, 246, rfl⟩
abbrev main_call7_v10 : Ref sig .tc := ⟨.hbm, 247, rfl⟩
abbrev main_call7_v11 : Ref sig .tc := ⟨.hbm, 248, rfl⟩
abbrev main_call7_c_3 : Ref sig .tc := ⟨.hbm, 249, rfl⟩
abbrev main_call7_v12 : Ref sig .tc := ⟨.hbm, 250, rfl⟩
abbrev main_call7_v13 : Ref sig .tc := ⟨.hbm, 251, rfl⟩
abbrev main_call7_v14 : Ref sig .tc := ⟨.hbm, 252, rfl⟩
abbrev main_call7_cst : Ref sig .tc := ⟨.hbm, 253, rfl⟩
abbrev main_call7_v15 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_cst_39 : Ref sig .tc := ⟨.hbm, 258, rfl⟩
abbrev main_v136 : Ref sig .tc := ⟨.hbm, 259, rfl⟩
abbrev main_cst_40 : Ref sig .tc := ⟨.hbm, 260, rfl⟩
abbrev main_v137 : Ref sig .tc := ⟨.hbm, 261, rfl⟩
abbrev main_v138 : Ref sig .tc := ⟨.hbm, 262, rfl⟩
abbrev main_c_41 : Ref sig .tc := ⟨.hbm, 263, rfl⟩
abbrev main_v139 : Ref sig .tc := ⟨.hbm, 264, rfl⟩
abbrev main_c_42 : Ref sig .tc := ⟨.hbm, 265, rfl⟩
abbrev main_call8_v0 : Ref sig .tc := ⟨.hbm, 266, rfl⟩
abbrev main_call8_v1 : Ref sig .tc := ⟨.hbm, 267, rfl⟩
abbrev main_v140 : Ref sig .tc := ⟨.hbm, 268, rfl⟩
abbrev main_c_43 : Ref sig .tc := ⟨.hbm, 269, rfl⟩
abbrev main_v141 : Ref sig .tc := ⟨.hbm, 270, rfl⟩
abbrev main_v142 : Ref sig .tc := ⟨.hbm, 271, rfl⟩
abbrev main_c_44 : Ref sig .tc := ⟨.hbm, 272, rfl⟩
abbrev main_v143 : Ref sig .tc := ⟨.hbm, 273, rfl⟩
abbrev main_v144 : Ref sig .tc := ⟨.hbm, 274, rfl⟩
abbrev main_v145 : Ref sig .tc := ⟨.hbm, 275, rfl⟩
abbrev main_v146 : Ref sig .tc := ⟨.hbm, 276, rfl⟩
abbrev main_c_45 : Ref sig .tc := ⟨.hbm, 277, rfl⟩
abbrev main_v147 : Ref sig .tc := ⟨.hbm, 278, rfl⟩
abbrev main_v148 : Ref sig .tc := ⟨.hbm, 279, rfl⟩
abbrev main_v149 : Ref sig .tc := ⟨.hbm, 280, rfl⟩
abbrev main_cst_46 : Ref sig .tc := ⟨.hbm, 281, rfl⟩
abbrev main_v150 : Ref sig .tc := ⟨.hbm, 282, rfl⟩
abbrev main_v151 : Ref sig .tc := ⟨.hbm, 283, rfl⟩
abbrev main_cst_47 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_cst_48 : Ref sig .tc := ⟨.hbm, 289, rfl⟩
abbrev main_v156 : Ref sig .tc := ⟨.hbm, 290, rfl⟩
abbrev main_v157 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_v164 : Ref sig .tc := ⟨.hbm, 298, rfl⟩
abbrev main_cst_49 : Ref sig .tc := ⟨.hbm, 299, rfl⟩
abbrev main_v165 : Ref sig .tc := ⟨.hbm, 300, rfl⟩
abbrev main_v166 : Ref sig .tc := ⟨.hbm, 301, rfl⟩
abbrev main_v167 : Ref sig .tc := ⟨.hbm, 302, rfl⟩
abbrev main_v168 : Ref sig .tc := ⟨.hbm, 303, rfl⟩
abbrev main_cst_50 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩
abbrev main_v172 : Ref sig .tc := ⟨.hbm, 308, rfl⟩
abbrev main_v173 : Ref sig .tc := ⟨.hbm, 309, rfl⟩
abbrev main_cst_51 : Ref sig .tc := ⟨.hbm, 310, rfl⟩
abbrev main_v174 : Ref sig .tc := ⟨.hbm, 311, rfl⟩
abbrev main_v175 : Ref sig .tc := ⟨.hbm, 312, rfl⟩
abbrev main_v176 : Ref sig .tc := ⟨.hbm, 313, rfl⟩
abbrev main_v177 : Ref sig .tc := ⟨.hbm, 314, rfl⟩
abbrev main_cst_52 : Ref sig .tc := ⟨.hbm, 315, rfl⟩
abbrev main_v178 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_v182 : Ref sig .tc := ⟨.hbm, 320, rfl⟩
abbrev main_v183 : Ref sig .tc := ⟨.hbm, 321, rfl⟩
abbrev main_c_53 : Ref sig .tc := ⟨.hbm, 322, rfl⟩
abbrev main_call9_v0 : Ref sig .tc := ⟨.hbm, 323, rfl⟩
abbrev main_call9_v1 : Ref sig .tc := ⟨.hbm, 324, rfl⟩
abbrev main_call9_v2 : Ref sig .tc := ⟨.hbm, 325, rfl⟩
abbrev main_v184 : Ref sig .tc := ⟨.hbm, 326, rfl⟩
abbrev main_c_54 : Ref sig .tc := ⟨.hbm, 327, rfl⟩
abbrev main_v185 : Ref sig .tc := ⟨.hbm, 328, rfl⟩
abbrev main_call10_c : Ref sig .tc := ⟨.hbm, 329, rfl⟩
abbrev main_call10_v0 : Ref sig .tc := ⟨.hbm, 330, rfl⟩
abbrev main_call10_v1 : Ref sig .tc := ⟨.hbm, 331, rfl⟩
abbrev main_call10_c_0 : Ref sig .tc := ⟨.hbm, 332, rfl⟩
abbrev main_call10_v2 : Ref sig .tc := ⟨.hbm, 333, rfl⟩
abbrev main_call10_v3 : Ref sig .tc := ⟨.hbm, 334, rfl⟩
abbrev main_call10_v4 : Ref sig .tc := ⟨.hbm, 335, rfl⟩
abbrev main_call10_v5 : Ref sig .tc := ⟨.hbm, 336, rfl⟩
abbrev main_call10_c_1 : Ref sig .tc := ⟨.hbm, 337, rfl⟩
abbrev main_call10_c_2 : Ref sig .tc := ⟨.hbm, 338, rfl⟩
abbrev main_call10_v6 : Ref sig .tc := ⟨.hbm, 339, rfl⟩
abbrev main_call10_v7 : Ref sig .tc := ⟨.hbm, 340, rfl⟩
abbrev main_call10_v8 : Ref sig .tc := ⟨.hbm, 341, rfl⟩
abbrev main_call10_v9 : Ref sig .tc := ⟨.hbm, 342, rfl⟩
abbrev main_call10_v10 : Ref sig .tc := ⟨.hbm, 343, rfl⟩
abbrev main_call10_v11 : Ref sig .tc := ⟨.hbm, 344, rfl⟩
abbrev main_call10_c_3 : Ref sig .tc := ⟨.hbm, 345, rfl⟩
abbrev main_call10_v12 : Ref sig .tc := ⟨.hbm, 346, rfl⟩
abbrev main_call10_v13 : Ref sig .tc := ⟨.hbm, 347, rfl⟩
abbrev main_call10_v14 : Ref sig .tc := ⟨.hbm, 348, rfl⟩
abbrev main_call10_cst : Ref sig .tc := ⟨.hbm, 349, rfl⟩
abbrev main_call10_v15 : Ref sig .tc := ⟨.hbm, 350, rfl⟩
abbrev main_v186 : Ref sig .tc := ⟨.hbm, 351, rfl⟩
abbrev main_v187 : Ref sig .tc := ⟨.hbm, 352, rfl⟩
abbrev main_v188 : Ref sig .tc := ⟨.hbm, 353, rfl⟩
abbrev main_cst_55 : Ref sig .tc := ⟨.hbm, 354, rfl⟩
abbrev main_v189 : Ref sig .tc := ⟨.hbm, 355, rfl⟩
abbrev main_cst_56 : Ref sig .tc := ⟨.hbm, 356, rfl⟩
abbrev main_v190 : Ref sig .tc := ⟨.hbm, 357, rfl⟩
abbrev main_v191 : Ref sig .tc := ⟨.hbm, 358, rfl⟩
abbrev main_c_57 : Ref sig .tc := ⟨.hbm, 359, rfl⟩
abbrev main_v192 : Ref sig .tc := ⟨.hbm, 360, rfl⟩
abbrev main_c_58 : Ref sig .tc := ⟨.hbm, 361, rfl⟩
abbrev main_call11_v0 : Ref sig .tc := ⟨.hbm, 362, rfl⟩
abbrev main_call11_v1 : Ref sig .tc := ⟨.hbm, 363, rfl⟩
abbrev main_v193 : Ref sig .tc := ⟨.hbm, 364, rfl⟩
abbrev main_c_59 : Ref sig .tc := ⟨.hbm, 365, rfl⟩
abbrev main_v194 : Ref sig .tc := ⟨.hbm, 366, rfl⟩
abbrev main_v195 : Ref sig .tc := ⟨.hbm, 367, rfl⟩
abbrev main_c_60 : Ref sig .tc := ⟨.hbm, 368, rfl⟩
abbrev main_v196 : Ref sig .tc := ⟨.hbm, 369, rfl⟩
abbrev main_v197 : Ref sig .tc := ⟨.hbm, 370, rfl⟩
abbrev main_v198 : Ref sig .tc := ⟨.hbm, 371, rfl⟩
abbrev main_v199 : Ref sig .tc := ⟨.hbm, 372, rfl⟩
abbrev main_c_61 : Ref sig .tc := ⟨.hbm, 373, rfl⟩
abbrev main_v200 : Ref sig .tc := ⟨.hbm, 374, rfl⟩
abbrev main_v201 : Ref sig .tc := ⟨.hbm, 375, rfl⟩
abbrev main_v202 : Ref sig .tc := ⟨.hbm, 376, rfl⟩
abbrev main_cst_62 : Ref sig .tc := ⟨.hbm, 377, rfl⟩
abbrev main_v203 : Ref sig .tc := ⟨.hbm, 378, rfl⟩
abbrev main_v204 : Ref sig .tc := ⟨.hbm, 379, rfl⟩
abbrev main_cst_63 : Ref sig .tc := ⟨.hbm, 380, rfl⟩
abbrev main_v205 : Ref sig .tc := ⟨.hbm, 381, rfl⟩
abbrev main_v206 : Ref sig .tc := ⟨.hbm, 382, rfl⟩
abbrev main_v207 : Ref sig .tc := ⟨.hbm, 383, rfl⟩
abbrev main_v208 : Ref sig .tc := ⟨.hbm, 384, rfl⟩
abbrev main_cst_64 : Ref sig .tc := ⟨.hbm, 385, rfl⟩
abbrev main_v209 : Ref sig .tc := ⟨.hbm, 386, rfl⟩
abbrev main_v210 : Ref sig .tc := ⟨.hbm, 387, rfl⟩
abbrev main_v211 : Ref sig .tc := ⟨.hbm, 388, rfl⟩
abbrev main_v212 : Ref sig .tc := ⟨.hbm, 389, rfl⟩
abbrev main_v213 : Ref sig .tc := ⟨.hbm, 390, rfl⟩
abbrev main_v214 : Ref sig .tc := ⟨.hbm, 391, rfl⟩
abbrev main_v215 : Ref sig .tc := ⟨.hbm, 392, rfl⟩
abbrev main_v216 : Ref sig .tc := ⟨.hbm, 393, rfl⟩
abbrev main_v217 : Ref sig .tc := ⟨.hbm, 394, rfl⟩
abbrev main_cst_65 : Ref sig .tc := ⟨.hbm, 395, rfl⟩
abbrev main_v218 : Ref sig .tc := ⟨.hbm, 396, rfl⟩
abbrev main_v219 : Ref sig .tc := ⟨.hbm, 397, rfl⟩
abbrev main_v220 : Ref sig .tc := ⟨.hbm, 398, rfl⟩
abbrev main_v221 : Ref sig .tc := ⟨.hbm, 399, rfl⟩
abbrev main_cst_66 : Ref sig .tc := ⟨.hbm, 400, rfl⟩
abbrev main_v222 : Ref sig .tc := ⟨.hbm, 401, rfl⟩
abbrev main_v223 : Ref sig .tc := ⟨.hbm, 402, rfl⟩
abbrev main_v224 : Ref sig .tc := ⟨.hbm, 403, rfl⟩
abbrev main_v225 : Ref sig .tc := ⟨.hbm, 404, rfl⟩
abbrev main_v226 : Ref sig .tc := ⟨.hbm, 405, rfl⟩
abbrev main_cst_67 : Ref sig .tc := ⟨.hbm, 406, rfl⟩
abbrev main_v227 : Ref sig .tc := ⟨.hbm, 407, rfl⟩
abbrev main_v228 : Ref sig .tc := ⟨.hbm, 408, rfl⟩
abbrev main_v229 : Ref sig .tc := ⟨.hbm, 409, rfl⟩
abbrev main_v230 : Ref sig .tc := ⟨.hbm, 410, rfl⟩
abbrev main_cst_68 : Ref sig .tc := ⟨.hbm, 411, rfl⟩
abbrev main_v231 : Ref sig .tc := ⟨.hbm, 412, rfl⟩
abbrev main_v232 : Ref sig .tc := ⟨.hbm, 413, rfl⟩
abbrev main_v233 : Ref sig .tc := ⟨.hbm, 414, rfl⟩
abbrev main_v234 : Ref sig .tc := ⟨.hbm, 415, rfl⟩
abbrev main_v235 : Ref sig .tc := ⟨.hbm, 416, rfl⟩
abbrev main_v236 : Ref sig .tc := ⟨.hbm, 417, rfl⟩
abbrev main_c_69 : Ref sig .tc := ⟨.hbm, 418, rfl⟩
abbrev main_call12_v0 : Ref sig .tc := ⟨.hbm, 419, rfl⟩
abbrev main_call12_v1 : Ref sig .tc := ⟨.hbm, 420, rfl⟩
abbrev main_call12_v2 : Ref sig .tc := ⟨.hbm, 421, rfl⟩
abbrev main_v237 : Ref sig .tc := ⟨.hbm, 422, rfl⟩
abbrev main_c_70 : Ref sig .tc := ⟨.hbm, 423, rfl⟩
abbrev main_v238 : Ref sig .tc := ⟨.hbm, 424, rfl⟩
abbrev main_call13_c : Ref sig .tc := ⟨.hbm, 425, rfl⟩
abbrev main_call13_v0 : Ref sig .tc := ⟨.hbm, 426, rfl⟩
abbrev main_call13_v1 : Ref sig .tc := ⟨.hbm, 427, rfl⟩
abbrev main_call13_c_0 : Ref sig .tc := ⟨.hbm, 428, rfl⟩
abbrev main_call13_v2 : Ref sig .tc := ⟨.hbm, 429, rfl⟩
abbrev main_call13_v3 : Ref sig .tc := ⟨.hbm, 430, rfl⟩
abbrev main_call13_v4 : Ref sig .tc := ⟨.hbm, 431, rfl⟩
abbrev main_call13_v5 : Ref sig .tc := ⟨.hbm, 432, rfl⟩
abbrev main_call13_c_1 : Ref sig .tc := ⟨.hbm, 433, rfl⟩
abbrev main_call13_c_2 : Ref sig .tc := ⟨.hbm, 434, rfl⟩
abbrev main_call13_v6 : Ref sig .tc := ⟨.hbm, 435, rfl⟩
abbrev main_call13_v7 : Ref sig .tc := ⟨.hbm, 436, rfl⟩
abbrev main_call13_v8 : Ref sig .tc := ⟨.hbm, 437, rfl⟩
abbrev main_call13_v9 : Ref sig .tc := ⟨.hbm, 438, rfl⟩
abbrev main_call13_v10 : Ref sig .tc := ⟨.hbm, 439, rfl⟩
abbrev main_call13_v11 : Ref sig .tc := ⟨.hbm, 440, rfl⟩
abbrev main_call13_c_3 : Ref sig .tc := ⟨.hbm, 441, rfl⟩
abbrev main_call13_v12 : Ref sig .tc := ⟨.hbm, 442, rfl⟩
abbrev main_call13_v13 : Ref sig .tc := ⟨.hbm, 443, rfl⟩
abbrev main_call13_v14 : Ref sig .tc := ⟨.hbm, 444, rfl⟩
abbrev main_call13_cst : Ref sig .tc := ⟨.hbm, 445, rfl⟩
abbrev main_call13_v15 : Ref sig .tc := ⟨.hbm, 446, rfl⟩
abbrev main_v239 : Ref sig .tc := ⟨.hbm, 447, rfl⟩
abbrev main_v240 : Ref sig .tc := ⟨.hbm, 448, rfl⟩
abbrev main_v241 : Ref sig .tc := ⟨.hbm, 449, rfl⟩
abbrev main_cst_71 : Ref sig .tc := ⟨.hbm, 450, rfl⟩
abbrev main_v242 : Ref sig .tc := ⟨.hbm, 451, rfl⟩
abbrev main_cst_72 : Ref sig .tc := ⟨.hbm, 452, rfl⟩
abbrev main_v243 : Ref sig .tc := ⟨.hbm, 453, rfl⟩
abbrev main_v244 : Ref sig .tc := ⟨.hbm, 454, rfl⟩
abbrev main_c_73 : Ref sig .tc := ⟨.hbm, 455, rfl⟩
abbrev main_v245 : Ref sig .tc := ⟨.hbm, 456, rfl⟩
abbrev main_c_74 : Ref sig .tc := ⟨.hbm, 457, rfl⟩
abbrev main_call14_v0 : Ref sig .tc := ⟨.hbm, 458, rfl⟩
abbrev main_call14_v1 : Ref sig .tc := ⟨.hbm, 459, rfl⟩
abbrev main_v246 : Ref sig .tc := ⟨.hbm, 460, rfl⟩
abbrev main_c_75 : Ref sig .tc := ⟨.hbm, 461, rfl⟩
abbrev main_v247 : Ref sig .tc := ⟨.hbm, 462, rfl⟩
abbrev main_v248 : Ref sig .tc := ⟨.hbm, 463, rfl⟩
abbrev main_c_76 : Ref sig .tc := ⟨.hbm, 464, rfl⟩
abbrev main_v249 : Ref sig .tc := ⟨.hbm, 465, rfl⟩
abbrev main_v250 : Ref sig .tc := ⟨.hbm, 466, rfl⟩
abbrev main_v251 : Ref sig .tc := ⟨.hbm, 467, rfl⟩
abbrev main_v252 : Ref sig .tc := ⟨.hbm, 468, rfl⟩
abbrev main_c_77 : Ref sig .tc := ⟨.hbm, 469, rfl⟩
abbrev main_v253 : Ref sig .tc := ⟨.hbm, 470, rfl⟩
abbrev main_v254 : Ref sig .tc := ⟨.hbm, 471, rfl⟩
abbrev main_v255 : Ref sig .tc := ⟨.hbm, 472, rfl⟩
abbrev main_cst_78 : Ref sig .tc := ⟨.hbm, 473, rfl⟩
abbrev main_v256 : Ref sig .tc := ⟨.hbm, 474, rfl⟩
abbrev main_v257 : Ref sig .tc := ⟨.hbm, 475, rfl⟩
abbrev main_cst_79 : Ref sig .tc := ⟨.hbm, 476, rfl⟩
abbrev main_v258 : Ref sig .tc := ⟨.hbm, 477, rfl⟩
abbrev main_v259 : Ref sig .tc := ⟨.hbm, 478, rfl⟩
abbrev main_v260 : Ref sig .tc := ⟨.hbm, 479, rfl⟩
abbrev main_v261 : Ref sig .tc := ⟨.hbm, 480, rfl⟩
abbrev main_cst_80 : Ref sig .tc := ⟨.hbm, 481, rfl⟩
abbrev main_v262 : Ref sig .tc := ⟨.hbm, 482, rfl⟩
abbrev main_v263 : Ref sig .tc := ⟨.hbm, 483, rfl⟩
abbrev main_v264 : Ref sig .tc := ⟨.hbm, 484, rfl⟩
abbrev main_v265 : Ref sig .tc := ⟨.hbm, 485, rfl⟩
abbrev main_v266 : Ref sig .tc := ⟨.hbm, 486, rfl⟩
abbrev main_v267 : Ref sig .tc := ⟨.hbm, 487, rfl⟩
abbrev main_v268 : Ref sig .tc := ⟨.hbm, 488, rfl⟩
abbrev main_v269 : Ref sig .tc := ⟨.hbm, 489, rfl⟩
abbrev main_v270 : Ref sig .tc := ⟨.hbm, 490, rfl⟩
abbrev main_cst_81 : Ref sig .tc := ⟨.hbm, 491, rfl⟩
abbrev main_v271 : Ref sig .tc := ⟨.hbm, 492, rfl⟩
abbrev main_v272 : Ref sig .tc := ⟨.hbm, 493, rfl⟩
abbrev main_v273 : Ref sig .tc := ⟨.hbm, 494, rfl⟩
abbrev main_v274 : Ref sig .tc := ⟨.hbm, 495, rfl⟩
abbrev main_cst_82 : Ref sig .tc := ⟨.hbm, 496, rfl⟩
abbrev main_v275 : Ref sig .tc := ⟨.hbm, 497, rfl⟩
abbrev main_v276 : Ref sig .tc := ⟨.hbm, 498, rfl⟩
abbrev main_v277 : Ref sig .tc := ⟨.hbm, 499, rfl⟩
abbrev main_v278 : Ref sig .tc := ⟨.hbm, 500, rfl⟩
abbrev main_v279 : Ref sig .tc := ⟨.hbm, 501, rfl⟩
abbrev main_cst_83 : Ref sig .tc := ⟨.hbm, 502, rfl⟩
abbrev main_v280 : Ref sig .tc := ⟨.hbm, 503, rfl⟩
abbrev main_v281 : Ref sig .tc := ⟨.hbm, 504, rfl⟩
abbrev main_v282 : Ref sig .tc := ⟨.hbm, 505, rfl⟩
abbrev main_v283 : Ref sig .tc := ⟨.hbm, 506, rfl⟩
abbrev main_cst_84 : Ref sig .tc := ⟨.hbm, 507, rfl⟩
abbrev main_v284 : Ref sig .tc := ⟨.hbm, 508, rfl⟩
abbrev main_v285 : Ref sig .tc := ⟨.hbm, 509, rfl⟩
abbrev main_v286 : Ref sig .tc := ⟨.hbm, 510, rfl⟩
abbrev main_v287 : Ref sig .tc := ⟨.hbm, 511, rfl⟩
abbrev main_v288 : Ref sig .tc := ⟨.hbm, 512, rfl⟩
abbrev main_v289 : Ref sig .tc := ⟨.hbm, 513, rfl⟩
abbrev main_c_85 : Ref sig .tc := ⟨.hbm, 514, rfl⟩
abbrev main_call15_v0 : Ref sig .tc := ⟨.hbm, 515, rfl⟩
abbrev main_call15_v1 : Ref sig .tc := ⟨.hbm, 516, rfl⟩
abbrev main_call15_v2 : Ref sig .tc := ⟨.hbm, 517, rfl⟩
abbrev main_v290 : Ref sig .tc := ⟨.hbm, 518, rfl⟩
abbrev main_c_86 : Ref sig .tc := ⟨.hbm, 519, rfl⟩
abbrev main_v291 : Ref sig .tc := ⟨.hbm, 520, rfl⟩
abbrev main_call16_c : Ref sig .tc := ⟨.hbm, 521, rfl⟩
abbrev main_call16_v0 : Ref sig .tc := ⟨.hbm, 522, rfl⟩
abbrev main_call16_v1 : Ref sig .tc := ⟨.hbm, 523, rfl⟩
abbrev main_call16_c_0 : Ref sig .tc := ⟨.hbm, 524, rfl⟩
abbrev main_call16_v2 : Ref sig .tc := ⟨.hbm, 525, rfl⟩
abbrev main_call16_v3 : Ref sig .tc := ⟨.hbm, 526, rfl⟩
abbrev main_call16_v4 : Ref sig .tc := ⟨.hbm, 527, rfl⟩
abbrev main_call16_v5 : Ref sig .tc := ⟨.hbm, 528, rfl⟩
abbrev main_call16_c_1 : Ref sig .tc := ⟨.hbm, 529, rfl⟩
abbrev main_call16_c_2 : Ref sig .tc := ⟨.hbm, 530, rfl⟩
abbrev main_call16_v6 : Ref sig .tc := ⟨.hbm, 531, rfl⟩
abbrev main_call16_v7 : Ref sig .tc := ⟨.hbm, 532, rfl⟩
abbrev main_call16_v8 : Ref sig .tc := ⟨.hbm, 533, rfl⟩
abbrev main_call16_v9 : Ref sig .tc := ⟨.hbm, 534, rfl⟩
abbrev main_call16_v10 : Ref sig .tc := ⟨.hbm, 535, rfl⟩
abbrev main_call16_v11 : Ref sig .tc := ⟨.hbm, 536, rfl⟩
abbrev main_call16_c_3 : Ref sig .tc := ⟨.hbm, 537, rfl⟩
abbrev main_call16_v12 : Ref sig .tc := ⟨.hbm, 538, rfl⟩
abbrev main_call16_v13 : Ref sig .tc := ⟨.hbm, 539, rfl⟩
abbrev main_call16_v14 : Ref sig .tc := ⟨.hbm, 540, rfl⟩
abbrev main_call16_cst : Ref sig .tc := ⟨.hbm, 541, rfl⟩
abbrev main_call16_v15 : Ref sig .tc := ⟨.hbm, 542, rfl⟩
abbrev main_v292 : Ref sig .tc := ⟨.hbm, 543, rfl⟩
abbrev main_v293 : Ref sig .tc := ⟨.hbm, 544, rfl⟩
abbrev main_v294 : Ref sig .tc := ⟨.hbm, 545, rfl⟩
abbrev main_cst_87 : Ref sig .tc := ⟨.hbm, 546, rfl⟩
abbrev main_v295 : Ref sig .tc := ⟨.hbm, 547, rfl⟩
abbrev main_cst_88 : Ref sig .tc := ⟨.hbm, 548, rfl⟩
abbrev main_v296 : Ref sig .tc := ⟨.hbm, 549, rfl⟩
abbrev main_v297 : Ref sig .tc := ⟨.hbm, 550, rfl⟩
abbrev main_c_89 : Ref sig .tc := ⟨.hbm, 551, rfl⟩
abbrev main_v298 : Ref sig .tc := ⟨.hbm, 552, rfl⟩
abbrev main_c_90 : Ref sig .tc := ⟨.hbm, 553, rfl⟩
abbrev main_call17_v0 : Ref sig .tc := ⟨.hbm, 554, rfl⟩
abbrev main_call17_v1 : Ref sig .tc := ⟨.hbm, 555, rfl⟩
abbrev main_v299 : Ref sig .tc := ⟨.hbm, 556, rfl⟩
abbrev main_c_91 : Ref sig .tc := ⟨.hbm, 557, rfl⟩
abbrev main_v300 : Ref sig .tc := ⟨.hbm, 558, rfl⟩
abbrev main_v301 : Ref sig .tc := ⟨.hbm, 559, rfl⟩
abbrev main_c_92 : Ref sig .tc := ⟨.hbm, 560, rfl⟩
abbrev main_v302 : Ref sig .tc := ⟨.hbm, 561, rfl⟩
abbrev main_v303 : Ref sig .tc := ⟨.hbm, 562, rfl⟩
abbrev main_v304 : Ref sig .tc := ⟨.hbm, 563, rfl⟩
abbrev main_v305 : Ref sig .tc := ⟨.hbm, 564, rfl⟩
abbrev main_c_93 : Ref sig .tc := ⟨.hbm, 565, rfl⟩
abbrev main_v306 : Ref sig .tc := ⟨.hbm, 566, rfl⟩
abbrev main_v307 : Ref sig .tc := ⟨.hbm, 567, rfl⟩
abbrev main_v308 : Ref sig .tc := ⟨.hbm, 568, rfl⟩
abbrev main_cst_94 : Ref sig .tc := ⟨.hbm, 569, rfl⟩
abbrev main_v309 : Ref sig .tc := ⟨.hbm, 570, rfl⟩
abbrev main_v310 : Ref sig .tc := ⟨.hbm, 571, rfl⟩
abbrev main_cst_95 : Ref sig .tc := ⟨.hbm, 572, rfl⟩
abbrev main_v311 : Ref sig .tc := ⟨.hbm, 573, rfl⟩
abbrev main_v312 : Ref sig .tc := ⟨.hbm, 574, rfl⟩
abbrev main_v313 : Ref sig .tc := ⟨.hbm, 575, rfl⟩
abbrev main_v314 : Ref sig .tc := ⟨.hbm, 576, rfl⟩
abbrev main_cst_96 : Ref sig .tc := ⟨.hbm, 577, rfl⟩
abbrev main_v315 : Ref sig .tc := ⟨.hbm, 578, rfl⟩
abbrev main_v316 : Ref sig .tc := ⟨.hbm, 579, rfl⟩
abbrev main_v317 : Ref sig .tc := ⟨.hbm, 580, rfl⟩
abbrev main_v318 : Ref sig .tc := ⟨.hbm, 581, rfl⟩
abbrev main_v319 : Ref sig .tc := ⟨.hbm, 582, rfl⟩
abbrev main_v320 : Ref sig .tc := ⟨.hbm, 583, rfl⟩
abbrev main_v321 : Ref sig .tc := ⟨.hbm, 584, rfl⟩
abbrev main_v322 : Ref sig .tc := ⟨.hbm, 585, rfl⟩
abbrev main_v323 : Ref sig .tc := ⟨.hbm, 586, rfl⟩
abbrev main_cst_97 : Ref sig .tc := ⟨.hbm, 587, rfl⟩
abbrev main_v324 : Ref sig .tc := ⟨.hbm, 588, rfl⟩
abbrev main_v325 : Ref sig .tc := ⟨.hbm, 589, rfl⟩
abbrev main_v326 : Ref sig .tc := ⟨.hbm, 590, rfl⟩
abbrev main_v327 : Ref sig .tc := ⟨.hbm, 591, rfl⟩
abbrev main_cst_98 : Ref sig .tc := ⟨.hbm, 592, rfl⟩
abbrev main_v328 : Ref sig .tc := ⟨.hbm, 593, rfl⟩
abbrev main_v329 : Ref sig .tc := ⟨.hbm, 594, rfl⟩
abbrev main_v330 : Ref sig .tc := ⟨.hbm, 595, rfl⟩
abbrev main_v331 : Ref sig .tc := ⟨.hbm, 596, rfl⟩
abbrev main_v332 : Ref sig .tc := ⟨.hbm, 597, rfl⟩
abbrev main_cst_99 : Ref sig .tc := ⟨.hbm, 598, rfl⟩
abbrev main_v333 : Ref sig .tc := ⟨.hbm, 599, rfl⟩
abbrev main_v334 : Ref sig .tc := ⟨.hbm, 600, rfl⟩
abbrev main_v335 : Ref sig .tc := ⟨.hbm, 601, rfl⟩
abbrev main_v336 : Ref sig .tc := ⟨.hbm, 602, rfl⟩
abbrev main_cst_100 : Ref sig .tc := ⟨.hbm, 603, rfl⟩
abbrev main_v337 : Ref sig .tc := ⟨.hbm, 604, rfl⟩
abbrev main_v338 : Ref sig .tc := ⟨.hbm, 605, rfl⟩
abbrev main_v339 : Ref sig .tc := ⟨.hbm, 606, rfl⟩
abbrev main_v340 : Ref sig .tc := ⟨.hbm, 607, rfl⟩
abbrev main_v341 : Ref sig .tc := ⟨.hbm, 608, rfl⟩
abbrev main_v342 : Ref sig .tc := ⟨.hbm, 609, rfl⟩
abbrev main_c_101 : Ref sig .tc := ⟨.hbm, 610, rfl⟩
abbrev main_call18_v0 : Ref sig .tc := ⟨.hbm, 611, rfl⟩
abbrev main_call18_v1 : Ref sig .tc := ⟨.hbm, 612, rfl⟩
abbrev main_call18_v2 : Ref sig .tc := ⟨.hbm, 613, rfl⟩
abbrev main_v343 : Ref sig .tc := ⟨.hbm, 614, rfl⟩
abbrev main_c_102 : Ref sig .tc := ⟨.hbm, 615, rfl⟩
abbrev main_v344 : Ref sig .tc := ⟨.hbm, 616, rfl⟩
abbrev main_call19_c : Ref sig .tc := ⟨.hbm, 617, rfl⟩
abbrev main_call19_v0 : Ref sig .tc := ⟨.hbm, 618, rfl⟩
abbrev main_call19_v1 : Ref sig .tc := ⟨.hbm, 619, rfl⟩
abbrev main_call19_c_0 : Ref sig .tc := ⟨.hbm, 620, rfl⟩
abbrev main_call19_v2 : Ref sig .tc := ⟨.hbm, 621, rfl⟩
abbrev main_call19_v3 : Ref sig .tc := ⟨.hbm, 622, rfl⟩
abbrev main_call19_v4 : Ref sig .tc := ⟨.hbm, 623, rfl⟩
abbrev main_call19_v5 : Ref sig .tc := ⟨.hbm, 624, rfl⟩
abbrev main_call19_c_1 : Ref sig .tc := ⟨.hbm, 625, rfl⟩
abbrev main_call19_c_2 : Ref sig .tc := ⟨.hbm, 626, rfl⟩
abbrev main_call19_v6 : Ref sig .tc := ⟨.hbm, 627, rfl⟩
abbrev main_call19_v7 : Ref sig .tc := ⟨.hbm, 628, rfl⟩
abbrev main_call19_v8 : Ref sig .tc := ⟨.hbm, 629, rfl⟩
abbrev main_call19_v9 : Ref sig .tc := ⟨.hbm, 630, rfl⟩
abbrev main_call19_v10 : Ref sig .tc := ⟨.hbm, 631, rfl⟩
abbrev main_call19_v11 : Ref sig .tc := ⟨.hbm, 632, rfl⟩
abbrev main_call19_c_3 : Ref sig .tc := ⟨.hbm, 633, rfl⟩
abbrev main_call19_v12 : Ref sig .tc := ⟨.hbm, 634, rfl⟩
abbrev main_call19_v13 : Ref sig .tc := ⟨.hbm, 635, rfl⟩
abbrev main_call19_v14 : Ref sig .tc := ⟨.hbm, 636, rfl⟩
abbrev main_call19_cst : Ref sig .tc := ⟨.hbm, 637, rfl⟩
abbrev main_call19_v15 : Ref sig .tc := ⟨.hbm, 638, rfl⟩
abbrev main_v345 : Ref sig .tc := ⟨.hbm, 639, rfl⟩
abbrev main_v346 : Ref sig .tc := ⟨.hbm, 640, rfl⟩
abbrev main_v347 : Ref sig .tc := ⟨.hbm, 641, rfl⟩
abbrev main_cst_103 : Ref sig .tc := ⟨.hbm, 642, rfl⟩
abbrev main_v348 : Ref sig .tc := ⟨.hbm, 643, rfl⟩
abbrev main_cst_104 : Ref sig .tc := ⟨.hbm, 644, rfl⟩
abbrev main_v349 : Ref sig .tc := ⟨.hbm, 645, rfl⟩
abbrev main_v350 : Ref sig .tc := ⟨.hbm, 646, rfl⟩
abbrev main_c_105 : Ref sig .tc := ⟨.hbm, 647, rfl⟩
abbrev main_v351 : Ref sig .tc := ⟨.hbm, 648, rfl⟩
abbrev main_c_106 : Ref sig .tc := ⟨.hbm, 649, rfl⟩
abbrev main_call20_v0 : Ref sig .tc := ⟨.hbm, 650, rfl⟩
abbrev main_call20_v1 : Ref sig .tc := ⟨.hbm, 651, rfl⟩
abbrev main_v352 : Ref sig .tc := ⟨.hbm, 652, rfl⟩
abbrev main_c_107 : Ref sig .tc := ⟨.hbm, 653, rfl⟩
abbrev main_v353 : Ref sig .tc := ⟨.hbm, 654, rfl⟩
abbrev main_v354 : Ref sig .tc := ⟨.hbm, 655, rfl⟩
abbrev main_c_108 : Ref sig .tc := ⟨.hbm, 656, rfl⟩
abbrev main_v355 : Ref sig .tc := ⟨.hbm, 657, rfl⟩
abbrev main_v356 : Ref sig .tc := ⟨.hbm, 658, rfl⟩
abbrev main_v357 : Ref sig .tc := ⟨.hbm, 659, rfl⟩
abbrev main_v358 : Ref sig .tc := ⟨.hbm, 660, rfl⟩
abbrev main_c_109 : Ref sig .tc := ⟨.hbm, 661, rfl⟩
abbrev main_v359 : Ref sig .tc := ⟨.hbm, 662, rfl⟩
abbrev main_v360 : Ref sig .tc := ⟨.hbm, 663, rfl⟩
abbrev main_v361 : Ref sig .tc := ⟨.hbm, 664, rfl⟩
abbrev main_cst_110 : Ref sig .tc := ⟨.hbm, 665, rfl⟩
abbrev main_v362 : Ref sig .tc := ⟨.hbm, 666, rfl⟩
abbrev main_v363 : Ref sig .tc := ⟨.hbm, 667, rfl⟩
abbrev main_cst_111 : Ref sig .tc := ⟨.hbm, 668, rfl⟩
abbrev main_v364 : Ref sig .tc := ⟨.hbm, 669, rfl⟩
abbrev main_v365 : Ref sig .tc := ⟨.hbm, 670, rfl⟩
abbrev main_v366 : Ref sig .tc := ⟨.hbm, 671, rfl⟩
abbrev main_v367 : Ref sig .tc := ⟨.hbm, 672, rfl⟩
abbrev main_cst_112 : Ref sig .tc := ⟨.hbm, 673, rfl⟩
abbrev main_v368 : Ref sig .tc := ⟨.hbm, 674, rfl⟩
abbrev main_v369 : Ref sig .tc := ⟨.hbm, 675, rfl⟩
abbrev main_v370 : Ref sig .tc := ⟨.hbm, 676, rfl⟩
abbrev main_v371 : Ref sig .tc := ⟨.hbm, 677, rfl⟩
abbrev main_v372 : Ref sig .tc := ⟨.hbm, 678, rfl⟩
abbrev main_v373 : Ref sig .tc := ⟨.hbm, 679, rfl⟩
abbrev main_v374 : Ref sig .tc := ⟨.hbm, 680, rfl⟩
abbrev main_v375 : Ref sig .tc := ⟨.hbm, 681, rfl⟩
abbrev main_v376 : Ref sig .tc := ⟨.hbm, 682, rfl⟩
abbrev main_cst_113 : Ref sig .tc := ⟨.hbm, 683, rfl⟩
abbrev main_v377 : Ref sig .tc := ⟨.hbm, 684, rfl⟩
abbrev main_v378 : Ref sig .tc := ⟨.hbm, 685, rfl⟩
abbrev main_v379 : Ref sig .tc := ⟨.hbm, 686, rfl⟩
abbrev main_v380 : Ref sig .tc := ⟨.hbm, 687, rfl⟩
abbrev main_cst_114 : Ref sig .tc := ⟨.hbm, 688, rfl⟩
abbrev main_v381 : Ref sig .tc := ⟨.hbm, 689, rfl⟩
abbrev main_v382 : Ref sig .tc := ⟨.hbm, 690, rfl⟩
abbrev main_v383 : Ref sig .tc := ⟨.hbm, 691, rfl⟩
abbrev main_v384 : Ref sig .tc := ⟨.hbm, 692, rfl⟩
abbrev main_v385 : Ref sig .tc := ⟨.hbm, 693, rfl⟩
abbrev main_cst_115 : Ref sig .tc := ⟨.hbm, 694, rfl⟩
abbrev main_v386 : Ref sig .tc := ⟨.hbm, 695, rfl⟩
abbrev main_v387 : Ref sig .tc := ⟨.hbm, 696, rfl⟩
abbrev main_v388 : Ref sig .tc := ⟨.hbm, 697, rfl⟩
abbrev main_v389 : Ref sig .tc := ⟨.hbm, 698, rfl⟩
abbrev main_cst_116 : Ref sig .tc := ⟨.hbm, 699, rfl⟩
abbrev main_v390 : Ref sig .tc := ⟨.hbm, 700, rfl⟩
abbrev main_v391 : Ref sig .tc := ⟨.hbm, 701, rfl⟩
abbrev main_v392 : Ref sig .tc := ⟨.hbm, 702, rfl⟩
abbrev main_v393 : Ref sig .tc := ⟨.hbm, 703, rfl⟩
abbrev main_v394 : Ref sig .tc := ⟨.hbm, 704, rfl⟩
abbrev main_v395 : Ref sig .tc := ⟨.hbm, 705, rfl⟩
abbrev main_c_117 : Ref sig .tc := ⟨.hbm, 706, rfl⟩
abbrev main_call21_v0 : Ref sig .tc := ⟨.hbm, 707, rfl⟩
abbrev main_call21_v1 : Ref sig .tc := ⟨.hbm, 708, rfl⟩
abbrev main_call21_v2 : Ref sig .tc := ⟨.hbm, 709, rfl⟩
abbrev main_v396 : Ref sig .tc := ⟨.hbm, 710, rfl⟩
abbrev main_c_118 : Ref sig .tc := ⟨.hbm, 711, rfl⟩
abbrev main_v397 : Ref sig .tc := ⟨.hbm, 712, rfl⟩
abbrev main_call22_c : Ref sig .tc := ⟨.hbm, 713, rfl⟩
abbrev main_call22_v0 : Ref sig .tc := ⟨.hbm, 714, rfl⟩
abbrev main_call22_v1 : Ref sig .tc := ⟨.hbm, 715, rfl⟩
abbrev main_call22_c_0 : Ref sig .tc := ⟨.hbm, 716, rfl⟩
abbrev main_call22_v2 : Ref sig .tc := ⟨.hbm, 717, rfl⟩
abbrev main_call22_v3 : Ref sig .tc := ⟨.hbm, 718, rfl⟩
abbrev main_call22_v4 : Ref sig .tc := ⟨.hbm, 719, rfl⟩
abbrev main_call22_v5 : Ref sig .tc := ⟨.hbm, 720, rfl⟩
abbrev main_call22_c_1 : Ref sig .tc := ⟨.hbm, 721, rfl⟩
abbrev main_call22_c_2 : Ref sig .tc := ⟨.hbm, 722, rfl⟩
abbrev main_call22_v6 : Ref sig .tc := ⟨.hbm, 723, rfl⟩
abbrev main_call22_v7 : Ref sig .tc := ⟨.hbm, 724, rfl⟩
abbrev main_call22_v8 : Ref sig .tc := ⟨.hbm, 725, rfl⟩
abbrev main_call22_v9 : Ref sig .tc := ⟨.hbm, 726, rfl⟩
abbrev main_call22_v10 : Ref sig .tc := ⟨.hbm, 727, rfl⟩
abbrev main_call22_v11 : Ref sig .tc := ⟨.hbm, 728, rfl⟩
abbrev main_call22_c_3 : Ref sig .tc := ⟨.hbm, 729, rfl⟩
abbrev main_call22_v12 : Ref sig .tc := ⟨.hbm, 730, rfl⟩
abbrev main_call22_v13 : Ref sig .tc := ⟨.hbm, 731, rfl⟩
abbrev main_call22_v14 : Ref sig .tc := ⟨.hbm, 732, rfl⟩
abbrev main_call22_cst : Ref sig .tc := ⟨.hbm, 733, rfl⟩
abbrev main_call22_v15 : Ref sig .tc := ⟨.hbm, 734, rfl⟩
abbrev main_v398 : Ref sig .tc := ⟨.hbm, 735, rfl⟩
abbrev main_v399 : Ref sig .tc := ⟨.hbm, 736, rfl⟩
abbrev main_v400 : Ref sig .tc := ⟨.hbm, 737, rfl⟩
abbrev main_cst_119 : Ref sig .tc := ⟨.hbm, 738, rfl⟩
abbrev main_v401 : Ref sig .tc := ⟨.hbm, 739, rfl⟩
abbrev main_cst_120 : Ref sig .tc := ⟨.hbm, 740, rfl⟩
abbrev main_v402 : Ref sig .tc := ⟨.hbm, 741, rfl⟩
abbrev main_v403 : Ref sig .tc := ⟨.hbm, 742, rfl⟩
abbrev main_c_121 : Ref sig .tc := ⟨.hbm, 743, rfl⟩
abbrev main_v404 : Ref sig .tc := ⟨.hbm, 744, rfl⟩
abbrev main_c_122 : Ref sig .tc := ⟨.hbm, 745, rfl⟩
abbrev main_call23_v0 : Ref sig .tc := ⟨.hbm, 746, rfl⟩
abbrev main_call23_v1 : Ref sig .tc := ⟨.hbm, 747, rfl⟩
abbrev main_v405 : Ref sig .tc := ⟨.hbm, 748, rfl⟩
abbrev main_c_123 : Ref sig .tc := ⟨.hbm, 749, rfl⟩
abbrev main_v406 : Ref sig .tc := ⟨.hbm, 750, rfl⟩
abbrev main_v407 : Ref sig .tc := ⟨.hbm, 751, rfl⟩
abbrev main_c_124 : Ref sig .tc := ⟨.hbm, 752, rfl⟩
abbrev main_v408 : Ref sig .tc := ⟨.hbm, 753, rfl⟩
abbrev main_v409 : Ref sig .tc := ⟨.hbm, 754, rfl⟩
abbrev main_v410 : Ref sig .tc := ⟨.hbm, 755, rfl⟩
abbrev main_v411 : Ref sig .tc := ⟨.hbm, 756, rfl⟩
abbrev main_c_125 : Ref sig .tc := ⟨.hbm, 757, rfl⟩
abbrev main_v412 : Ref sig .tc := ⟨.hbm, 758, rfl⟩
abbrev main_v413 : Ref sig .tc := ⟨.hbm, 759, rfl⟩
abbrev main_v414 : Ref sig .tc := ⟨.hbm, 760, rfl⟩
abbrev main_cst_126 : Ref sig .tc := ⟨.hbm, 761, rfl⟩
abbrev main_v415 : Ref sig .tc := ⟨.hbm, 762, rfl⟩
abbrev main_v416 : Ref sig .tc := ⟨.hbm, 763, rfl⟩
abbrev main_cst_127 : Ref sig .tc := ⟨.hbm, 764, rfl⟩
abbrev main_v417 : Ref sig .tc := ⟨.hbm, 765, rfl⟩
abbrev main_v418 : Ref sig .tc := ⟨.hbm, 766, rfl⟩
abbrev main_v419 : Ref sig .tc := ⟨.hbm, 767, rfl⟩
abbrev main_v420 : Ref sig .tc := ⟨.hbm, 768, rfl⟩
abbrev main_cst_128 : Ref sig .tc := ⟨.hbm, 769, rfl⟩
abbrev main_v421 : Ref sig .tc := ⟨.hbm, 770, rfl⟩
abbrev main_v422 : Ref sig .tc := ⟨.hbm, 771, rfl⟩
abbrev main_v423 : Ref sig .tc := ⟨.hbm, 772, rfl⟩
abbrev main_v424 : Ref sig .tc := ⟨.hbm, 773, rfl⟩
abbrev main_v425 : Ref sig .tc := ⟨.hbm, 774, rfl⟩
abbrev main_v426 : Ref sig .tc := ⟨.hbm, 775, rfl⟩
abbrev main_v427 : Ref sig .tc := ⟨.hbm, 776, rfl⟩
abbrev main_v428 : Ref sig .tc := ⟨.hbm, 777, rfl⟩
abbrev main_v429 : Ref sig .tc := ⟨.hbm, 778, rfl⟩
abbrev main_v430 : Ref sig .tc := ⟨.hbm, 779, rfl⟩
abbrev main_v431 : Ref sig .tc := ⟨.hbm, 780, rfl⟩
abbrev main_v432 : Ref sig .tc := ⟨.hbm, 781, rfl⟩
abbrev main_v433 : Ref sig .tc := ⟨.hbm, 782, rfl⟩
abbrev main_v434 : Ref sig .tc := ⟨.hbm, 783, rfl⟩
abbrev main_v435 : Ref sig .tc := ⟨.hbm, 784, rfl⟩
abbrev main_v436 : Ref sig .tc := ⟨.hbm, 785, rfl⟩
abbrev main_v437 : Ref sig .tc := ⟨.hbm, 786, rfl⟩
abbrev main_v438 : Ref sig .tc := ⟨.hbm, 787, rfl⟩
abbrev main_v439 : Ref sig .tc := ⟨.hbm, 788, rfl⟩
abbrev main_cst_129 : Ref sig .tc := ⟨.hbm, 789, rfl⟩
abbrev main_v440 : Ref sig .tc := ⟨.hbm, 790, rfl⟩
abbrev main_cst_130 : Ref sig .tc := ⟨.hbm, 791, rfl⟩
abbrev main_v441 : Ref sig .tc := ⟨.hbm, 792, rfl⟩

abbrev nD : Nat := 1
abbrev τ : Topo := Topo.v7x

variable {F : FTy → Type} [FloatOps F]
-- ==== Proof.KernelRun.lean ====
/- The kernel's run: it terminates, and every array ends at what the generated fold over its host operations and its two
   kernels says, every semaphore counter at zero. -/
module

public import proofs.«01_k».proof.Proof.Gen.KernelIdeal.Frame

@[expose] public section

set_option maxRecDepth 16384

noncomputable section

namespace Cert.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program terminates over any float values; every array ends as the fold has it, and every semaphore counter at zero. -/
theorem run : θ_run defs (onTc (τ := τ) (main (F := F))) ⟨m, fun _ => 0, ρ⟩ (fun r => (∀ c : Dev nD,
      ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun _ h hz => ⟨h, funext fun g => hz g (.inr (no_unscoped g.2))⟩)

end Cert.Entry
-- ==== Proof.KernelLevel.lean ====
/- One level of the quantiser as the kernel's body computes it on a block of 768 rows, stated once as a
   function of the residual and of the level's codebook, and the body's stored values named by it: level `l`'s
   residual, its nearest indices, its histogram and its commitment sum. -/
module

public import proofs.«01_k».proof.Proof.Gen.KernelIdeal.Frame

@[expose] public section

set_option maxRecDepth 16384

noncomputable section

namespace Cert.Block

open Cert.KernelIdeal Cert.KernelIdeal.Gen Idealize.ShloMosaic

variable {F : FTy → Type} [FloatOps F]

/-- Each row's sum of squares. -/
def rowSq (r : FVec F S768x256 .f32) : FVec F S768x1 .f32 :=
  shapeCast S768x1 (multiReduction .add [1] S768 (mulf r r) 0x00000000#32 reduces_S768x256_S768 (.inl rfl) rfl)
    shapeCasts_S768_S768x1

/-- The distance of each row of `r` to each row of `cb`, whose sums of squares are `sq`. -/
def dist (r : FVec F S768x256 .f32) (cb : FVec F S1024x256 .f32) (sq : FVec F S1x1024 .f32) : FVec F S768x1024 .f32 :=
  addf (subf (broadcastTo S768x1024 (rowSq r) broadcasts_S768x1_S768x1024)
      (mulf (broadcast S768x1024 (Scalar.ofBits .f32 0x40000000#32))
        (matmul dot_S768x256_S1024x256_S768x1024_1_1_0_0_n_n none r cb (constant S768x1024 .f32 0x00000000#32))))
    (broadcastTo S768x1024 sq broadcasts_S1x1024_S768x1024)

/-- Each row's nearest codeword. -/
def near (r : FVec F S768x256 .f32) (cb : FVec F S1024x256 .f32) (sq : FVec F S1x1024 .f32) : IVec S768 32 :=
  reduceIndex .argMin 1 S768 (dist r cb sq) reduces_S768x1024_S768

/-- The one-hot rows of the indices `i`. -/
def hot (i : IVec S768 32) : IVec S768x1024 8 :=
  extui 8 (cmpi .eq (iota .tc S768x1024 32 [1] iota_S768x1024_d1_w32)
    (broadcastTo S768x1024 (shapeCast S768x1 i shapeCasts_S768_S768x1) broadcasts_S768x1_S768x1024)) natLt_1_8

/-- The four byte planes that the one-hot rows `h` pick out of `w`. -/
def planes (h : IVec S768x1024 8) (w : IVec S1024x1024 8) : IVec S768x1024 32 :=
  matmulI8 IntMxuNumerics.v7x dot_S768x1024_S1024x1024_S768x1024_1_0_0_1_n_n h w (constantI S768x1024 32 0#32)

/-- Four byte planes put together to words. -/
def word (g : IVec S768x1024 32) : IVec S768x256 32 :=
  ori (ori (ori
    (addi (extractStridedSlice S768x256 ![0, 0] g slices_S768x1024_o0_0_S768x256) (broadcast S768x256 128#32))
    (shli (addi (extractStridedSlice S768x256 ![0, 256] g slices_S768x1024_o0_256_S768x256) (broadcast S768x256 128#32))
      (broadcast S768x256 8#32)))
    (shli (addi (extractStridedSlice S768x256 ![0, 512] g slices_S768x1024_o0_512_S768x256) (broadcast S768x256 128#32))
      (broadcast S768x256 16#32)))
    (shli (addi (extractStridedSlice S768x256 ![0, 768] g slices_S768x1024_o0_768_S768x256) (broadcast S768x256 128#32))
      (broadcast S768x256 24#32))

/-- The codewords that the one-hot rows `h` pick. -/
def entry (h : IVec S768x1024 8) (w : IVec S1024x1024 8) : FVec F S768x256 .f32 :=
  bitcastToFloat .f32 (word (planes h w))

/-- How many of the one-hot rows pick each codeword. -/
def count (h : IVec S768x1024 8) : FVec F S1x1x1024 .f32 :=
  shapeCast S1x1x1024 (sitofp .f32 (matmulI8 IntMxuNumerics.v7x dot_S1x768_S768x1024_S1x1024_1_0_0_1_n_n
    (broadcast S1x768 1#8) h (constantI S1x1024 32 0#32))) shapeCasts_S1x1024_S1x1x1024

/-- The block's sum of the squares of `r`, in 128 lanes. -/
def total (r : FVec F S768x256 .f32) : FVec F S1x1x128 .f32 :=
  shapeCast S1x1x128 (broadcast S1x128 (extractAt ![0, 0, 0]
    (shapeCast S1x1x1 (multiReduction .add [1, 2] S1 (shapeCast S1x768x1 (rowSq r) shapeCasts_S768x1_S1x768x1)
      0x00000000#32 reduces_S1x768x1_S1 (.inl rfl) rfl) shapeCasts_S1_S1x1x1) inpos_S1x1x1_p0_0_0))
    shapeCasts_S1x128_S1x1x128

variable (x0 : Vec F S768x256 .f32) (x1 : Vec F S8192x256 .f32) (x2 : Vec F S8192x1024 .i8) (x3 : Vec F S8x1024 .f32)

/-- The rows of the level's codebook. -/
def cbs (n : ℕ) : FVec F S1024x256 .f32 :=
  ![shapeCast S1024x256 (View.ld x1 r0_1) shapeCasts_S1024x256_S1024x256,
    shapeCast S1024x256 (View.ld x1 r0_7) shapeCasts_S1024x256_S1024x256,
    shapeCast S1024x256 (View.ld x1 r0_12) shapeCasts_S1024x256_S1024x256,
    shapeCast S1024x256 (View.ld x1 r0_17) shapeCasts_S1024x256_S1024x256,
    shapeCast S1024x256 (View.ld x1 r0_22) shapeCasts_S1024x256_S1024x256,
    shapeCast S1024x256 (View.ld x1 r0_27) shapeCasts_S1024x256_S1024x256,
    shapeCast S1024x256 (View.ld x1 r0_32) shapeCasts_S1024x256_S1024x256,
    shapeCast S1024x256 (View.ld x1 r0_37) shapeCasts_S1024x256_S1024x256] (Fin.ofNat 8 n)

/-- The rows of the level's byte planes. -/
def cbws (n : ℕ) : IVec S1024x1024 8 :=
  ![shapeCast S1024x1024 (View.ld (Val := Elt F) x2 r0_4) shapeCasts_S1024x1024_S1024x1024,
    shapeCast S1024x1024 (View.ld (Val := Elt F) x2 r0_9) shapeCasts_S1024x1024_S1024x1024,
    shapeCast S1024x1024 (View.ld (Val := Elt F) x2 r0_14) shapeCasts_S1024x1024_S1024x1024,
    shapeCast S1024x1024 (View.ld (Val := Elt F) x2 r0_19) shapeCasts_S1024x1024_S1024x1024,
    shapeCast S1024x1024 (View.ld (Val := Elt F) x2 r0_24) shapeCasts_S1024x1024_S1024x1024,
    shapeCast S1024x1024 (View.ld (Val := Elt F) x2 r0_29) shapeCasts_S1024x1024_S1024x1024,
    shapeCast S1024x1024 (View.ld (Val := Elt F) x2 r0_34) shapeCasts_S1024x1024_S1024x1024,
    shapeCast S1024x1024 (View.ld (Val := Elt F) x2 r0_39) shapeCasts_S1024x1024_S1024x1024] (Fin.ofNat 8 n)

/-- The sums of squares of the level's codewords. -/
def sqs (n : ℕ) : FVec F S1x1024 .f32 :=
  ![shapeCast S1x1024 (View.ld x3 r0_2) shapeCasts_S1x1024_S1x1024,
    shapeCast S1x1024 (View.ld x3 r0_8) shapeCasts_S1x1024_S1x1024,
    shapeCast S1x1024 (View.ld x3 r0_13) shapeCasts_S1x1024_S1x1024,
    shapeCast S1x1024 (View.ld x3 r0_18) shapeCasts_S1x1024_S1x1024,
    shapeCast S1x1024 (View.ld x3 r0_23) shapeCasts_S1x1024_S1x1024,
    shapeCast S1x1024 (View.ld x3 r0_28) shapeCasts_S1x1024_S1x1024,
    shapeCast S1x1024 (View.ld x3 r0_33) shapeCasts_S1x1024_S1x1024,
    shapeCast S1x1024 (View.ld x3 r0_38) shapeCasts_S1x1024_S1x1024] (Fin.ofNat 8 n)

/-- The residual before level `n`. -/
def res : ℕ → FVec F S768x256 .f32
  | 0 => shapeCast S768x256 (View.ld x0 r0_0) shapeCasts_S768x256_S768x256
  | n + 1 => subf (res n) (entry (hot (near (res n) (cbs x1 n) (sqs x3 n))) (cbws (F := F) x2 n))

/-- Level `n`'s nearest indices. -/
def idx (n : ℕ) : IVec S768 32 := near (res x0 x1 x2 x3 n) (cbs x1 n) (sqs x3 n)

/-- Level `n`'s codewords. -/
def quant (n : ℕ) : FVec F S768x256 .f32 := entry (hot (idx (F := F) x0 x1 x2 x3 n)) (cbws (F := F) x2 n)

/-- The sum of the first `n` levels' codewords. -/
def qsum : ℕ → FVec F S768x256 .f32
  | 0 => broadcast S768x256 (Scalar.ofBits .f32 0x00000000#32)
  | n + 1 => addf (qsum n) (quant x0 x1 x2 x3 n)

/-- A level leaves the residual less its codewords. -/
theorem res_succ (n : ℕ) : res x0 x1 x2 x3 (n + 1) = subf (res x0 x1 x2 x3 n) (quant x0 x1 x2 x3 n) := rfl

/-! ## The body's values by these names -/

/-- A named value of the body: the residual before a level. -/
theorem pay94 : k0_pay94 x0 x1 x2 x3 = res x0 x1 x2 x3 0 := rfl
/-- A named value of the body: the bytes that a level's one-hot rows fetch. -/
theorem pay95 : k0_pay95 x0 x1 x2 x3 = planes (hot (idx (F := F) x0 x1 x2 x3 0)) (cbws (F := F) x2 0) := rfl
/-- A named value of the body: the residual before a level. -/
theorem pay98 : k0_pay98 x0 x1 x2 x3 = res x0 x1 x2 x3 1 := rfl
/-- A named value of the body: the codewords of a level. -/
theorem pay102 : k0_pay102 x0 x1 x2 x3 = quant x0 x1 x2 x3 1 := by
  show _ = entry (hot (near (res x0 x1 x2 x3 1) _ _)) _
  rw [← pay98]; rfl
/-- A named value of the body: the residual before a level. -/
theorem pay103 : k0_pay103 x0 x1 x2 x3 = res x0 x1 x2 x3 2 := by
  rw [k0_pay103, pay98, pay102]; rfl
/-- A named value of the body: the bytes that a level's one-hot rows fetch. -/
theorem pay104 : k0_pay104 x0 x1 x2 x3 = planes (hot (idx (F := F) x0 x1 x2 x3 2)) (cbws (F := F) x2 2) := by
  show _ = planes (hot (near (res x0 x1 x2 x3 2) _ _)) _
  rw [← pay103]; rfl
/-- A named value of the body: the residual before a level. -/
theorem pay107 : k0_pay107 x0 x1 x2 x3 = res x0 x1 x2 x3 3 := by
  rw [res_succ, ← pay103, quant, idx, ← pay103]; rfl
/-- A named value of the body: the codewords of a level. -/
theorem pay110 : k0_pay110 x0 x1 x2 x3 = quant x0 x1 x2 x3 3 := by
  rw [quant, idx, ← pay107]; rfl
/-- A named value of the body: the residual before a level. -/
theorem pay111 : k0_pay111 x0 x1 x2 x3 = res x0 x1 x2 x3 4 := by
  rw [k0_pay111, pay107, pay110]; rfl
/-- A named value of the body: the one-hot rows of level 4. -/
theorem pay112 : k0_pay112 x0 x1 x2 x3 = hot (idx (F := F) x0 x1 x2 x3 4) := by
  rw [idx, ← pay111]; rfl
/-- A named value of the body: the residual before a level. -/
theorem pay114 : k0_pay114 x0 x1 x2 x3 = res x0 x1 x2 x3 5 := by
  rw [k0_pay114, pay111, pay112]; rfl
/-- A named value of the body: the residual before a level. -/
theorem pay118 : k0_pay118 x0 x1 x2 x3 = res x0 x1 x2 x3 6 := by
  rw [res_succ, quant, idx, ← pay114]; rfl
/-- A named value of the body: the indices of level 6. -/
theorem pay119 : k0_pay119 x0 x1 x2 x3 = idx (F := F) x0 x1 x2 x3 6 := by
  rw [idx, ← pay118]; rfl
/-- A named value of the body: the residual before a level. -/
theorem pay120 : k0_pay120 x0 x1 x2 x3 = res x0 x1 x2 x3 7 := by
  rw [k0_pay120, pay118, pay119]; rfl

/-- The block of the quantised rows that the body stores. -/
theorem out_q : out0_4 x0 x1 x2 x3 = View.canon [⟨r0_0, addf (res x0 x1 x2 x3 0)
    (subf (qsum x0 x1 x2 x3 8) (res x0 x1 x2 x3 0))⟩] := by
  have h7 : entry (F := F) (hot (near (k0_pay120 x0 x1 x2 x3) (cbs x1 7) (sqs x3 7))) (cbws (F := F) x2 7) = quant x0 x1 x2 x3 7 := by
    rw [pay120]; rfl
  have h5 : entry (F := F) (hot (near (k0_pay114 x0 x1 x2 x3) (cbs x1 5) (sqs x3 5))) (cbws (F := F) x2 5) = quant x0 x1 x2 x3 5 := by
    rw [pay114]; rfl
  have h2 : entry (F := F) (hot (near (k0_pay103 x0 x1 x2 x3) (cbs x1 2) (sqs x3 2))) (cbws (F := F) x2 2) = quant x0 x1 x2 x3 2 := by
    rw [pay103]; rfl
  rw [out0_4]
  simp only [qsum]
  rw [← h7, ← h5, ← h2, ← pay110, ← pay102]
  simp only [quant]
  rw [← pay119, ← pay112]
  rfl

/-- The block of indices that the body stores for level 0. -/
theorem out_idx0 : out0_5 x0 x1 x2 x3 = View.canon [⟨r0_3, shapeCast S1x1x768 (idx (F := F) x0 x1 x2 x3 0) shapeCasts_S768_S1x1x768⟩] := rfl
/-- The block of indices that the body stores for level 1. -/
theorem out_idx1 : out0_6 x0 x1 x2 x3 = View.canon [⟨r0_3, shapeCast S1x1x768 (idx (F := F) x0 x1 x2 x3 1) shapeCasts_S768_S1x1x768⟩] := by
  rw [idx, ← pay98]; rfl
/-- The block of indices that the body stores for level 2. -/
theorem out_idx2 : out0_7 x0 x1 x2 x3 = View.canon [⟨r0_3, shapeCast S1x1x768 (idx (F := F) x0 x1 x2 x3 2) shapeCasts_S768_S1x1x768⟩] := by
  rw [idx, ← pay103]; rfl
/-- The block of indices that the body stores for level 3. -/
theorem out_idx3 : out0_8 x0 x1 x2 x3 = View.canon [⟨r0_3, shapeCast S1x1x768 (idx (F := F) x0 x1 x2 x3 3) shapeCasts_S768_S1x1x768⟩] := by
  rw [idx, ← pay107]; rfl
/-- The block of indices that the body stores for level 4. -/
theorem out_idx4 : out0_9 x0 x1 x2 x3 = View.canon [⟨r0_3, shapeCast S1x1x768 (idx (F := F) x0 x1 x2 x3 4) shapeCasts_S768_S1x1x768⟩] := by
  rw [idx, ← pay111]; rfl
/-- The block of indices that the body stores for level 5. -/
theorem out_idx5 : out0_10 x0 x1 x2 x3 = View.canon [⟨r0_3, shapeCast S1x1x768 (idx (F := F) x0 x1 x2 x3 5) shapeCasts_S768_S1x1x768⟩] := by
  rw [idx, ← pay114]; rfl
/-- The block of indices that the body stores for level 6. -/
theorem out_idx6 : out0_11 x0 x1 x2 x3 = View.canon [⟨r0_3, shapeCast S1x1x768 (idx (F := F) x0 x1 x2 x3 6) shapeCasts_S768_S1x1x768⟩] := by
  rw [← pay119]; rfl
/-- The block of indices that the body stores for level 7. -/
theorem out_idx7 : out0_12 x0 x1 x2 x3 = View.canon [⟨r0_3, shapeCast S1x1x768 (idx (F := F) x0 x1 x2 x3 7) shapeCasts_S768_S1x1x768⟩] := by
  rw [idx, ← pay120]; rfl

/-- The histograms that the body stores, one level in each row. -/
theorem out_count : out0_13 x0 x1 x2 x3 = View.canon [⟨r0_40, count (hot (idx (F := F) x0 x1 x2 x3 7))⟩,
    ⟨r0_35, count (hot (idx (F := F) x0 x1 x2 x3 6))⟩, ⟨r0_30, count (hot (idx (F := F) x0 x1 x2 x3 5))⟩,
    ⟨r0_25, count (hot (idx (F := F) x0 x1 x2 x3 4))⟩, ⟨r0_20, count (hot (idx (F := F) x0 x1 x2 x3 3))⟩,
    ⟨r0_15, count (hot (idx (F := F) x0 x1 x2 x3 2))⟩, ⟨r0_10, count (hot (idx (F := F) x0 x1 x2 x3 1))⟩,
    ⟨r0_5, count (hot (idx (F := F) x0 x1 x2 x3 0))⟩] := by
  rw [← pay119, ← pay112]
  simp only [idx]
  rw [← pay120, ← pay114, ← pay107, ← pay103, ← pay98]
  rfl

/-- The commitment sums that the body stores, one level in each row. -/
theorem out_total : out0_14 x0 x1 x2 x3 = View.canon [⟨r0_41, total (res x0 x1 x2 x3 8)⟩,
    ⟨r0_36, total (res x0 x1 x2 x3 7)⟩, ⟨r0_31, total (res x0 x1 x2 x3 6)⟩,
    ⟨r0_26, total (res x0 x1 x2 x3 5)⟩, ⟨r0_21, total (res x0 x1 x2 x3 4)⟩,
    ⟨r0_16, total (res x0 x1 x2 x3 3)⟩, ⟨r0_11, total (res x0 x1 x2 x3 2)⟩,
    ⟨r0_6, total (res x0 x1 x2 x3 1)⟩] := by
  rw [← pay120, ← pay118, ← pay114, ← pay111, ← pay107, ← pay103, ← pay98]
  have h8 : res x0 x1 x2 x3 8 = subf (k0_pay120 x0 x1 x2 x3)
      (entry (hot (near (k0_pay120 x0 x1 x2 x3) (cbs x1 7) (sqs x3 7))) (cbws (F := F) x2 7)) := by
    rw [pay120]; rfl
  rw [h8]
  rfl

end Cert.Block
-- ==== Proof.Rows.lean ====
/- The quantiser's mathematics on one row of 256 extended reals: the distance of a row to each of a book's 1024
   codewords, the nearest codeword, and the residual after some levels. Both programs compute these row by row. -/
module

public import Idealize.ShloMosaic.PureOps.Ideal
public import Idealize.ShloMosaic.Lib.Pointwise

@[expose] public section

noncomputable section

namespace Cert.Rvq

open Idealize.ShloMosaic

/-- A row. -/
abbrev Row := Fin 256 → EReal
/-- A level's codewords. -/
abbrev Book := Fin 1024 → Row

/-- A row's sum of squares. -/
def sq (r : Row) : EReal := ∑ x, r x * r x

/-- The distance of the row `r` to codeword `k`, the constant 2 read as its word gives it. -/
def dist (r : Row) (b : Book) (k : Fin 1024) : EReal :=
  sq r - Ideal.ofBits .f32 0x40000000#32 * (∑ x, r x * b k x) + sq (b k)

/-- The codewords at the least distance. -/
def closest (d : Fin 1024 → EReal) : Finset (Fin 1024) := Finset.univ.filter fun k => ∀ k', d k ≤ d k'

/-- Some codeword is closest. -/
theorem closest_nonempty (d : Fin 1024 → EReal) : (closest d).Nonempty := by
  obtain ⟨k, -, hk⟩ := Finset.exists_min_image Finset.univ d ⟨0, Finset.mem_univ _⟩
  exact ⟨k, Finset.mem_filter.mpr ⟨Finset.mem_univ _, fun k' => hk k' (Finset.mem_univ _)⟩⟩

/-- The first of the least of the 1024 values `d`. -/
def first (d : Fin 1024 → EReal) : Fin 1024 := (closest d).min' (closest_nonempty d)

/-- The first closest codeword is at the least distance. -/
theorem first_le (d : Fin 1024 → EReal) (k : Fin 1024) : d (first d) ≤ d k :=
  (Finset.mem_filter.mp ((closest d).min'_mem (closest_nonempty d))).2 k

/-- It is the first at that distance. -/
theorem first_min (d : Fin 1024 → EReal) (k : Fin 1024) (h : ∀ k', d k ≤ d k') : first d ≤ k :=
  (closest d).min'_le k (Finset.mem_filter.mpr ⟨Finset.mem_univ _, h⟩)

/-- The row's nearest codeword. -/
def near (r : Row) (b : Book) : Fin 1024 := first (dist r b)

/-- The row that is left of `r` before level `n`. -/
def res (b : ℕ → Book) (r : Row) : ℕ → Row
  | 0 => r
  | n + 1 => fun x => res b r n x - b n (near (res b r n) (b n)) x

/-- The index that level `n` picks for the row `r`. -/
def pick (b : ℕ → Book) (r : Row) (n : ℕ) : Fin 1024 := near (res b r n) (b n)

/-- A level leaves the residual less the picked codeword. -/
theorem res_succ (b : ℕ → Book) (r : Row) (n : ℕ) (x : Fin 256) :
    res b r (n + 1) x = res b r n x - b n (pick b r n) x := rfl

/-- The sum of the codewords of the first `n` levels. -/
def qsum (b : ℕ → Book) (r : Row) : ℕ → Row
  | 0 => fun _ => 0
  | n + 1 => fun x => qsum b r n x + b n (pick b r n) x

/-- A sum of squares is not negative. -/
theorem sq_nonneg (r : Row) : 0 ≤ sq r := Finset.sum_nonneg fun x _ => by
  rcases le_total 0 (r x) with h | h
  · exact mul_nonneg h h
  · rw [← neg_mul_neg]; exact mul_nonneg (EReal.neg_nonneg.mpr h) (EReal.neg_nonneg.mpr h)

/-- The books that the words `w` stand for: a level's codeword `k` at `x` is the number its word names. -/
def books (w : ℕ → Fin 1024 → Fin 256 → BitVec 32) : ℕ → Book := fun n k x => Ideal.ofBits .f32 (w n k x)

/-- The words of the three-dimensional array of codebooks, level by level. -/
def wordsOf (a : (⟨3, ![8, 1024, 256]⟩ : Shape).Idx → BitVec 32) : ℕ → Fin 1024 → Fin 256 → BitVec 32 :=
  fun n k x => a (ix3 (Fin.ofNat 8 n) k x)

/-- The 4608 rows of the array of inputs. -/
def rowsOf (a : (⟨3, ![8, 576, 256]⟩ : Shape).Idx → EReal) : Fin 4608 → Row :=
  fun i x => a (ix3 ⟨i / 576, by omega⟩ ⟨i % 576, by omega⟩ x)

end Cert.Rvq
-- ==== Proof.BlockStep.lean ====
/- What one level computes on a block, read row by row: the nearest index of each row, its one-hot row, the byte
   planes that row picks, the codeword put together from them, the histogram and the sum of squares. -/
module

public import proofs.«01_k».proof.Proof.KernelLevel
public import proofs.«01_k».proof.Proof.Rows
public import Idealize.ShloMosaic.Lib.Pointwise
public import Idealize.ShloMosaic.Lib.IntMxu
public import Idealize.ShloMosaic.Lib.BitcastFour

@[expose] public section

set_option maxRecDepth 16384

noncomputable section

namespace Cert.Block

open Cert.KernelIdeal Cert.KernelIdeal.Gen Idealize.ShloMosaic

/-- A block's distances are the rows' distances. -/
theorem dist_at (r : FVec Ideal S768x256 .f32) (cb : FVec Ideal S1024x256 .f32) (sq : FVec Ideal S1x1024 .f32)
    (R : Fin 768 → Rvq.Row) (b : Rvq.Book) (hr : ∀ i x, r (ix2 i x) = R i x) (hb : ∀ k x, cb (ix2 k x) = b k x)
    (hs : ∀ k, sq (ix2 0 k) = Rvq.sq (b k)) (i : Fin 768) (k : Fin 1024) : dist r cb sq (ix2 i k) = Rvq.dist (R i) b k := by
  pointwise [dist, rowSq]
  simp only [hr, hb, hs]
  rfl

/-- The reduced index of an index of the 768×1024 array is its row. -/
theorem drop_eq (i' : S768x1024.Idx) (i : Fin 768) :
    reduces_S768x1024_S768.drop i' = ix1 i ↔ i' 0 = i := by
  constructor
  · intro h
    have := congrFun h 0
    exact Fin.ext (congrArg Fin.val this)
  · rintro rfl
    funext a
    fin_cases a
    rfl

/-- The least element of a set of numbers, from its being one of them and a bound of them. -/
theorem min_getD_eq {s : Finset ℕ} {n : ℕ} (h : n ∈ s) (hl : ∀ a ∈ s, n ≤ a) : s.min.getD 0 = n := by
  rw [show s.min = (n : WithTop ℕ) from le_antisymm (Finset.min_le h) (Finset.le_min fun a ha => WithTop.coe_le_coe.mpr (hl a ha))]
  rfl

/-- Membership in a filtered set, by whichever procedure its predicate is decided. -/
theorem mem_filter_any {α : Type*} {p : α → Prop} {inst : DecidablePred p} {s : Finset α} {a : α} :
    a ∈ @Finset.filter α p inst s ↔ a ∈ s ∧ p a := Finset.mem_filter

/-- The nearest index of a block's row is that row's. -/
theorem near_at (r : FVec Ideal S768x256 .f32) (cb : FVec Ideal S1024x256 .f32) (sq : FVec Ideal S1x1024 .f32)
    (R : Fin 768 → Rvq.Row) (b : Rvq.Book) (hr : ∀ i x, r (ix2 i x) = R i x) (hb : ∀ k x, cb (ix2 k x) = b k x)
    (hs : ∀ k, sq (ix2 0 k) = Rvq.sq (b k)) (i : Fin 768) : near r cb sq (ix1 i) = BitVec.ofNat 32 (Rvq.near (R i) b) := by
  have hd := dist_at r cb sq R b hr hb hs i
  have key : ∀ (i' : S768x1024.Idx), reduces_S768x1024_S768.drop i' = ix1 i → ∃ k : Fin 1024, i' = ix2 i k := by
    intro i' h
    obtain rfl := (drop_eq i' i).mp h
    refine ⟨i' 1, ?_⟩
    funext a
    fin_cases a <;> rfl
  unfold near reduceIndex
  rw [Ideal.reduceIndex_def]
  unfold Ideal.reduceIndex
  dsimp only
  congr 1
  refine min_getD_eq (Finset.mem_image.mpr ⟨ix2 i (Rvq.near (R i) b), ?_, rfl⟩) ?_
  · refine mem_filter_any.mpr ⟨Finset.mem_filter.mpr ⟨Finset.mem_univ _, (drop_eq _ _).mpr rfl⟩, fun i'' h => ?_⟩
    obtain ⟨k, rfl⟩ := key i'' (Finset.mem_filter.mp h).2
    rw [if_neg (by decide), hd, hd, not_lt]
    exact Rvq.first_le _ _
  · intro a ha
    obtain ⟨i', h, rfl⟩ := Finset.mem_image.mp ha
    obtain ⟨h1, h2⟩ := mem_filter_any.mp h
    obtain ⟨k, rfl⟩ := key i' (Finset.mem_filter.mp h1).2
    refine Rvq.first_min _ k fun k' => ?_
    have := h2 (ix2 i k') (Finset.mem_filter.mpr ⟨Finset.mem_univ _, (drop_eq _ _).mpr rfl⟩)
    rwa [if_neg (by decide), not_lt, hd, hd] at this

/-- A one-hot row is 1 at its index, 0 elsewhere. -/
theorem hot_at (v : IVec S768 32) (i : Fin 768) (n : Fin 1024) (hv : v (ix1 i) = BitVec.ofNat 32 n) (k : Fin 1024) :
    hot v (ix2 i k) = if k = n then 1#8 else 0#8 := by
  pointwise [hot]
  rw [hv]
  by_cases h : k = n
  · subst h
    rw [if_pos rfl]
    have : IntOp.cmpi .eq (BitVec.ofNat 32 (k : ℕ)) (BitVec.ofNat 32 k) = 1#1 := by simp [IntOp.cmpi]
    rw [this]; rfl
  · rw [if_neg h]
    have hne : BitVec.ofNat 32 (k : ℕ) ≠ BitVec.ofNat 32 n := by
      intro e
      have := congrArg BitVec.toNat e
      simp only [BitVec.toNat_ofNat] at this
      rw [Nat.mod_eq_of_lt (by omega), Nat.mod_eq_of_lt (by omega)] at this
      exact h (Fin.ext this)
    have : IntOp.cmpi .eq (BitVec.ofNat 32 (k : ℕ)) (BitVec.ofNat 32 n) = 0#1 := by
      show BitVec.ofBool _ = _
      rw [beq_eq_false_iff_ne.mpr hne]; rfl
    rw [this]; rfl

/-- The products of the one-hot contraction: one term is left. -/
theorem dot_hot (h : IVec S768x1024 8) (w : IVec S1024x1024 8) (i : Fin 768) (n : Fin 1024)
    (hh : ∀ k, h (ix2 i k) = if k = n then 1#8 else 0#8) (j : Fin 1024) :
    dotI8 dot_S768x1024_S1024x1024_S768x1024_1_0_0_1_n_n h w (ix2 i j) = (w (ix2 n j)).toInt
    ∧ absDotI8 dot_S768x1024_S1024x1024_S768x1024_1_0_0_1_n_n h w (ix2 i j) = (w (ix2 n j)).toInt.natAbs := by
  have el : ∀ k : Fin 1024, dot_S768x1024_S1024x1024_S768x1024_1_0_0_1_n_n.lhsIdx (ix2 i j)
      (DotDims.contrIdx₁ dot_S768x1024_S1024x1024_S768x1024_1_0_0_1_n_n (a := 1) rfl (K := 1024) rfl k) = ix2 i k := by
    intro k; funext a; fin_cases a <;> rfl
  have er : ∀ k : Fin 1024, dot_S768x1024_S1024x1024_S768x1024_1_0_0_1_n_n.rhsIdx (ix2 i j)
      (DotDims.contrIdx₁ dot_S768x1024_S1024x1024_S768x1024_1_0_0_1_n_n (a := 1) rfl (K := 1024) rfl k) = ix2 k j := by
    intro k; funext a; fin_cases a <;> rfl
  constructor
  · unfold dotI8
    rw [DotDims.sum_contr₁ _ (a := 1) rfl (K := 1024) rfl]
    simp only [el, er, hh]
    rw [Finset.sum_eq_single n (fun k _ hk => by rw [if_neg hk]; simp) (fun h => absurd (Finset.mem_univ _) h), if_pos rfl]
    simp
  · unfold absDotI8
    rw [DotDims.sum_contr₁ _ (a := 1) rfl (K := 1024) rfl]
    simp only [el, er, hh]
    rw [Finset.sum_eq_single n (fun k _ hk => by rw [if_neg hk]; simp) (fun h => absurd (Finset.mem_univ _) h), if_pos rfl]
    simp

/-- A one-hot row picks its index's row of byte planes. -/
theorem planes_at (h : IVec S768x1024 8) (w : IVec S1024x1024 8) (i : Fin 768) (n : Fin 1024)
    (hh : ∀ k, h (ix2 i k) = if k = n then 1#8 else 0#8) (j : Fin 1024) :
    planes h w (ix2 i j) = (w (ix2 n j)).signExtend 32 := by
  have e := dot_hot h w i n hh j
  show matmulI8 _ _ _ _ _ _ = _
  rw [matmulI8_exact _ _ _ _ _ _ rfl (by
    rw [e.2]; exact (natAbs_toInt_i8_le _).trans (by decide)), e.1]
  rfl

/-- Byte `c` of a word, 128 less. -/
def byte (w : BitVec 32) (c : ℕ) : BitVec 8 := BitVec.setWidth 8 (w >>> (8 * c)) - 128#8

/-- A byte less 128, widened with its sign and raised by 128, is the byte again. -/
theorem byte_back (b : BitVec 8) : (b - 128#8).signExtend 32 + 128#32 = b.setWidth 32 := by
  revert b; decide

/-- The four bytes of a word, each widened and moved to its place, are the word. -/
theorem bytes_word (w : BitVec 32) :
    IntOp.ori (IntOp.ori (IntOp.ori (IntOp.addi ((byte w 0).signExtend 32) 128#32)
      (IntOp.shli ArithUnit.vector (IntOp.addi ((byte w 1).signExtend 32) 128#32) 8#32))
      (IntOp.shli ArithUnit.vector (IntOp.addi ((byte w 2).signExtend 32) 128#32) 16#32))
      (IntOp.shli ArithUnit.vector (IntOp.addi ((byte w 3).signExtend 32) 128#32) 24#32) = w := by
  have e (c : ℕ) : IntOp.addi ((byte w c).signExtend 32) 128#32 = (BitVec.setWidth 8 (w >>> (8 * c))).setWidth 32 := byte_back _
  rw [e, e, e, e]
  apply BitVec.eq_of_getLsbD_eq
  intro q hq
  refine (four_bytes_getLsbD (fun c : Fin 4 => BitVec.setWidth 8 (w >>> (8 * (c : ℕ)))) q hq).trans ?_
  have h8 : q % 8 < 8 := Nat.mod_lt _ (by decide)
  simp only [BitVec.getLsbD_setWidth, BitVec.getLsbD_ushiftRight, h8, decide_true, Bool.true_and]
  rw [Nat.div_add_mod]

/-- The codeword that a one-hot row picks out of the byte planes of the words `W`. -/
theorem entry_at (h : IVec S768x1024 8) (w : IVec S1024x1024 8) (W : Fin 1024 → Fin 256 → BitVec 32)
    (hw : ∀ (k : Fin 1024) (c : Fin 4) (x : Fin 256), w (ix2 k ⟨256 * c + x, by omega⟩) = byte (W k x) c)
    (i : Fin 768) (n : Fin 1024) (hh : ∀ k, h (ix2 i k) = if k = n then 1#8 else 0#8) (x : Fin 256) :
    entry (F := Ideal) h w (ix2 i x) = Ideal.ofBits .f32 (W n x) := by
  show Ideal.ofBits .f32 (word (planes h w) (ix2 i x)) = _
  congr 1
  pointwise [word]
  have p (c : Fin 4) (y : ℕ) (hy : y < 1024) (e : y = 256 * c + x) :
      planes h w (ix2 i ⟨y, hy⟩) = (byte (W n x) c).signExtend 32 := by
    subst e
    rw [planes_at h w i n hh, hw n c x]
  rw [p 0 _ _ (by simp), p 1 _ _ (by simp), p 2 _ _ (by simp), p 3 _ _ (by simp)]
  exact bytes_word (W n x)

/-- The histogram counts the rows whose one-hot row is that codeword's. -/
theorem count_at (h : IVec S768x1024 8) (N : Fin 768 → Fin 1024)
    (hh : ∀ i k, h (ix2 i k) = if k = N i then 1#8 else 0#8) (k : Fin 1024) :
    count (F := Ideal) h (ix3 0 0 k) = ((Finset.univ.filter fun i => N i = k).card : EReal) := by
  pointwise [count]
  have el : ∀ i : Fin 768, dot_S1x768_S768x1024_S1x1024_1_0_0_1_n_n.rhsIdx (ix2 0 k)
      (DotDims.contrIdx₁ dot_S1x768_S768x1024_S1x1024_1_0_0_1_n_n (a := 1) rfl (K := 768) rfl i) = ix2 i k := by
    intro i; funext a; fin_cases a <;> rfl
  have ed : dotI8 dot_S1x768_S768x1024_S1x1024_1_0_0_1_n_n (broadcast S1x768 1#8) h (ix2 0 k)
      = ((Finset.univ.filter fun i => N i = k).card : ℤ) := by
    unfold dotI8
    rw [DotDims.sum_contr₁ _ (a := 1) rfl (K := 768) rfl]
    simp only [el, hh, broadcast]
    rw [Finset.card_filter, Nat.cast_sum]
    refine Finset.sum_congr rfl fun i _ => ?_
    by_cases e : N i = k
    · rw [if_pos e.symm, if_pos e]; rfl
    · rw [if_neg (Ne.symm e), if_neg e]; rfl
  rw [matmulI8_exact_of_numel _ _ _ _ _ _ rfl (by decide), ed]
  have hc : (Finset.univ.filter fun i => N i = k).card ≤ 768 := (Finset.card_le_univ _).trans_eq (Fintype.card_fin _)
  show (((BitVec.ofInt 32 _).toInt : ℝ) : EReal) = _
  rw [BitVec.toInt_ofInt, Int.bmod_eq_of_le (by omega) (by omega)]
  rfl

/-- The block's sum of squares is the sum of the rows' ones. -/
theorem total_at (r : FVec Ideal S768x256 .f32) (R : Fin 768 → Rvq.Row) (hr : ∀ i x, r (ix2 i x) = R i x) (l : Fin 128) :
    total r (ix3 0 0 l) = ∑ i, Rvq.sq (R i) := by
  pointwise [total, rowSq]
  simp only [hr, Finset.univ_unique, Finset.sum_singleton]
  rfl

end Cert.Block
-- ==== Proof.BlockValue.lean ====
/- What the kernel's body leaves of a block of 768 rows, read row by row: for a block of rows `X` and the codebooks
   that the words `w` stand for, level `n`'s residual, its indices, its codewords, its histogram and its sum of squares are
   those of the mathematics of one row (Rows.lean). -/
module

public import proofs.«01_k».proof.Proof.BlockStep

@[expose] public section

set_option maxRecDepth 16384

noncomputable section

namespace Cert.Block

open Cert.KernelIdeal Cert.KernelIdeal.Gen Idealize.ShloMosaic

variable (x0 : Vec Ideal S768x256 .f32) (x1 : Vec Ideal S8192x256 .f32) (x2 : Vec Ideal S8192x1024 .i8) (x3 : Vec Ideal S8x1024 .f32)

/-- Level `n`'s codebook is rows `1024 n` on of the stacked codebooks. -/
theorem cbs_at (n : ℕ) (hn : n < 8) (k : Fin 1024) (x : Fin 256) :
    cbs x1 n (ix2 k x) = x1 (ix2 ⟨1024 * n + k, by omega⟩ x) := by
  interval_cases n
  · show shapeCast S1024x256 (View.ld x1 r0_1) shapeCasts_S1024x256_S1024x256 _ = _
    pointwise []
  · show shapeCast S1024x256 (View.ld x1 r0_7) shapeCasts_S1024x256_S1024x256 _ = _
    pointwise []
  · show shapeCast S1024x256 (View.ld x1 r0_12) shapeCasts_S1024x256_S1024x256 _ = _
    pointwise []
  · show shapeCast S1024x256 (View.ld x1 r0_17) shapeCasts_S1024x256_S1024x256 _ = _
    pointwise []
  · show shapeCast S1024x256 (View.ld x1 r0_22) shapeCasts_S1024x256_S1024x256 _ = _
    pointwise []
  · show shapeCast S1024x256 (View.ld x1 r0_27) shapeCasts_S1024x256_S1024x256 _ = _
    pointwise []
  · show shapeCast S1024x256 (View.ld x1 r0_32) shapeCasts_S1024x256_S1024x256 _ = _
    pointwise []
  · show shapeCast S1024x256 (View.ld x1 r0_37) shapeCasts_S1024x256_S1024x256 _ = _
    pointwise []

/-- Level `n`'s byte planes are rows `1024 n` on of the stacked byte planes. -/
theorem cbws_at (n : ℕ) (hn : n < 8) (k : Fin 1024) (y : Fin 1024) :
    cbws (F := Ideal) x2 n (ix2 k y) = x2 (ix2 ⟨1024 * n + k, by omega⟩ y) := by
  interval_cases n
  · show shapeCast S1024x1024 (View.ld (Val := Elt Ideal) x2 r0_4) shapeCasts_S1024x1024_S1024x1024 _ = _
    pointwise []
  · show shapeCast S1024x1024 (View.ld (Val := Elt Ideal) x2 r0_9) shapeCasts_S1024x1024_S1024x1024 _ = _
    pointwise []
  · show shapeCast S1024x1024 (View.ld (Val := Elt Ideal) x2 r0_14) shapeCasts_S1024x1024_S1024x1024 _ = _
    pointwise []
  · show shapeCast S1024x1024 (View.ld (Val := Elt Ideal) x2 r0_19) shapeCasts_S1024x1024_S1024x1024 _ = _
    pointwise []
  · show shapeCast S1024x1024 (View.ld (Val := Elt Ideal) x2 r0_24) shapeCasts_S1024x1024_S1024x1024 _ = _
    pointwise []
  · show shapeCast S1024x1024 (View.ld (Val := Elt Ideal) x2 r0_29) shapeCasts_S1024x1024_S1024x1024 _ = _
    pointwise []
  · show shapeCast S1024x1024 (View.ld (Val := Elt Ideal) x2 r0_34) shapeCasts_S1024x1024_S1024x1024 _ = _
    pointwise []
  · show shapeCast S1024x1024 (View.ld (Val := Elt Ideal) x2 r0_39) shapeCasts_S1024x1024_S1024x1024 _ = _
    pointwise []

/-- Level `n`'s sums of squares are row `n` of theirs. -/
theorem sqs_at (n : ℕ) (hn : n < 8) (k : Fin 1024) : sqs x3 n (ix2 0 k) = x3 (ix2 ⟨n, hn⟩ k) := by
  interval_cases n
  · show shapeCast S1x1024 (View.ld x3 r0_2) shapeCasts_S1x1024_S1x1024 _ = _
    pointwise []
  · show shapeCast S1x1024 (View.ld x3 r0_8) shapeCasts_S1x1024_S1x1024 _ = _
    pointwise []
  · show shapeCast S1x1024 (View.ld x3 r0_13) shapeCasts_S1x1024_S1x1024 _ = _
    pointwise []
  · show shapeCast S1x1024 (View.ld x3 r0_18) shapeCasts_S1x1024_S1x1024 _ = _
    pointwise []
  · show shapeCast S1x1024 (View.ld x3 r0_23) shapeCasts_S1x1024_S1x1024 _ = _
    pointwise []
  · show shapeCast S1x1024 (View.ld x3 r0_28) shapeCasts_S1x1024_S1x1024 _ = _
    pointwise []
  · show shapeCast S1x1024 (View.ld x3 r0_33) shapeCasts_S1x1024_S1x1024 _ = _
    pointwise []
  · show shapeCast S1x1024 (View.ld x3 r0_38) shapeCasts_S1x1024_S1x1024 _ = _
    pointwise []

/-- The block's inputs are the rows `X` and what the words `w` stand for. -/
structure Reads (X : Fin 768 → Rvq.Row) (w : ℕ → Fin 1024 → Fin 256 → BitVec 32) : Prop where
  rows : ∀ i x, x0 (ix2 i x) = X i x
  book : ∀ (n : ℕ) (hn : n < 8) (k : Fin 1024) (x : Fin 256), x1 (ix2 ⟨1024 * n + k, by omega⟩ x) = Rvq.books w n k x
  plane : ∀ (n : ℕ) (hn : n < 8) (k : Fin 1024) (c : Fin 4) (x : Fin 256),
    x2 (ix2 ⟨1024 * n + k, by omega⟩ ⟨256 * c + x, by omega⟩) = byte (w n k x) c
  square : ∀ (n : ℕ) (hn : n < 8) (k : Fin 1024), x3 (ix2 ⟨n, hn⟩ k) = Rvq.sq (Rvq.books w n k)

variable {x0 x1 x2 x3} {X : Fin 768 → Rvq.Row} {w : ℕ → Fin 1024 → Fin 256 → BitVec 32} (h : Reads x0 x1 x2 x3 X w)
include h

/-- If the residual before level `n` is the rows' one, its indices are the rows' picks. -/
theorem idx_of_res (n : ℕ) (hn : n < 8) (hr : ∀ i x, res x0 x1 x2 x3 n (ix2 i x) = Rvq.res (Rvq.books w) (X i) n x) (i : Fin 768) :
    idx (F := Ideal) x0 x1 x2 x3 n (ix1 i) = BitVec.ofNat 32 (Rvq.pick (Rvq.books w) (X i) n) :=
  near_at _ _ _ (fun i => Rvq.res (Rvq.books w) (X i) n) (Rvq.books w n) hr
    (fun k x => (cbs_at x1 n hn k x).trans (h.book n hn k x)) (fun k => (sqs_at x3 n hn k).trans (h.square n hn k)) i

/-- If level `n`'s indices are the rows' picks, its codewords are theirs. -/
theorem quant_of_idx (n : ℕ) (hn : n < 8) (i : Fin 768)
    (hi : idx (F := Ideal) x0 x1 x2 x3 n (ix1 i) = BitVec.ofNat 32 (Rvq.pick (Rvq.books w) (X i) n)) (x : Fin 256) :
    quant x0 x1 x2 x3 n (ix2 i x) = Rvq.books w n (Rvq.pick (Rvq.books w) (X i) n) x :=
  entry_at _ _ (w n) (fun k c x => (cbws_at x2 n hn k _).trans (h.plane n hn k c x)) i _ (hot_at _ i _ hi) x

/-- The residual before level `n` is the rows' one. -/
theorem res_at (n : ℕ) (hn : n ≤ 8) (i : Fin 768) (x : Fin 256) :
    res x0 x1 x2 x3 n (ix2 i x) = Rvq.res (Rvq.books w) (X i) n x := by
  induction n generalizing i x with
  | zero =>
    show shapeCast S768x256 (View.ld x0 r0_0) shapeCasts_S768x256_S768x256 _ = _
    pointwise []
    exact h.rows i x
  | succ n ih =>
    have hr := fun i x => ih (by omega) i x
    have hq := quant_of_idx h n (by omega) i (idx_of_res h n (by omega) hr i) x
    rw [res_succ, Rvq.res_succ]
    show res x0 x1 x2 x3 n (ix2 i x) - quant x0 x1 x2 x3 n (ix2 i x) = _
    rw [hr, hq]

/-- The index of row `i` at level `n` is the quantiser's pick. -/
theorem idx_at (n : ℕ) (hn : n < 8) (i : Fin 768) :
    idx (F := Ideal) x0 x1 x2 x3 n (ix1 i) = BitVec.ofNat 32 (Rvq.pick (Rvq.books w) (X i) n) :=
  idx_of_res h n hn (fun i x => res_at h n hn.le i x) i

/-- The codeword taken for row `i` at level `n` is the picked one. -/
theorem quant_at (n : ℕ) (hn : n < 8) (i : Fin 768) (x : Fin 256) :
    quant x0 x1 x2 x3 n (ix2 i x) = Rvq.books w n (Rvq.pick (Rvq.books w) (X i) n) x :=
  quant_of_idx h n hn i (idx_at h n hn i) x

/-- The sum of the first `n` levels' codewords is the rows' one. -/
theorem qsum_at (n : ℕ) (hn : n ≤ 8) (i : Fin 768) (x : Fin 256) :
    qsum x0 x1 x2 x3 n (ix2 i x) = Rvq.qsum (Rvq.books w) (X i) n x := by
  induction n with
  | zero => show Ideal.ofBits .f32 0x00000000#32 = 0; simp
  | succ n ih =>
    show qsum x0 x1 x2 x3 n (ix2 i x) + quant x0 x1 x2 x3 n (ix2 i x) = _
    rw [ih (by omega), quant_at h n (by omega)]
    rfl

/-- Level `n`'s histogram counts the rows that pick each codeword. -/
theorem hist_at (n : ℕ) (hn : n < 8) (k : Fin 1024) :
    count (F := Ideal) (hot (idx (F := Ideal) x0 x1 x2 x3 n)) (ix3 0 0 k)
      = ((Finset.univ.filter fun i => Rvq.pick (Rvq.books w) (X i) n = k).card : EReal) :=
  count_at _ _ (fun i k => hot_at _ i _ (idx_at h n hn i) k) k

/-- The sum of squares of the residual before level `n`. -/
theorem energy_at (n : ℕ) (hn : n ≤ 8) (l : Fin 128) :
    total (res x0 x1 x2 x3 n) (ix3 0 0 l) = ∑ i, Rvq.sq (Rvq.res (Rvq.books w) (X i) n) :=
  total_at _ _ (fun i x => res_at h n hn i x) l

end Cert.Block
-- ==== Proof.HostBefore.lean ====
/- What the operations before the first kernel leave in its four inputs: the rows, the stacked codebooks, their byte planes
   and their sums of squares. -/
module

public import proofs.«01_k».proof.Proof.BlockValue
public import Idealize.ShloMosaic.Lib.StableHlo.ReadAt

@[expose] public section

set_option maxRecDepth 16384

noncomputable section

namespace Cert.Entry

open Cert.KernelIdeal Cert.KernelIdeal.Gen Idealize.ShloMosaic Idealize.SL.Sem

variable (m : (ℓ : Loc nD τ sig) → Buf (Elt Ideal) ℓ) (ρ : Dev nD → PrngReg) (c : Dev nD)

/-- The rows that device `c` is given. -/
def rows : Fin 4608 → Rvq.Row := Rvq.rowsOf (m ((c.tc : Thread nD τ).loc main_arg0))
/-- The words of its codebooks. -/
def words : ℕ → Fin 1024 → Fin 256 → BitVec 32 := Rvq.wordsOf (m ((c.tc : Thread nD τ).loc main_arg1))

/-- The main kernel's first operand is the rows of the inputs. -/
theorem rows_at (i : Fin 4608) (x : Fin 256) : V1 m ρ c main_v1 (ix2 i x) = rows m c i x := by
  show StableHlo.after hostOps0 (W0 m ρ c) (Proc.devRef .tc main_v1) (ix2 i x) = _
  after_reads_at
  rfl

/-- Row `1024 n + k` of the flattened codebooks is of level `n`. -/
theorem level_eq (n : ℕ) (hn : n < 8) (k : Fin 1024) (h : (1024 * n + k : ℕ) / 1024 < 8) :
    (⟨(1024 * n + k : ℕ) / 1024, h⟩ : Fin 8) = Fin.ofNat 8 n := Fin.ext (by
  show (1024 * n + k : ℕ) / 1024 = n % 8
  omega)

/-- Its second operand is the codebooks, one level after the other. -/
theorem book_at (n : ℕ) (hn : n < 8) (k : Fin 1024) (x : Fin 256) :
    V1 m ρ c main_v2 (ix2 ⟨1024 * n + k, by omega⟩ x) = Rvq.books (words m c) n k x := by
  show StableHlo.after hostOps0 (W0 m ρ c) (Proc.devRef .tc main_v2) (ix2 _ x) = _
  after_reads_at
  rw [level_eq n hn k]
  rfl

/-- Its fourth operand is the codewords' sums of squares. -/
theorem square_at (n : ℕ) (hn : n < 8) (k : Fin 1024) :
    V1 m ρ c main_v35 (ix2 ⟨n, hn⟩ k) = Rvq.sq (Rvq.books (words m c) n k) := by
  show StableHlo.after hostOps0 (W0 m ρ c) (Proc.devRef .tc main_v35) (ix2 _ k) = _
  after_reads_at
  rw [show (⟨n, hn⟩ : Fin 8) = Fin.ofNat 8 n from Fin.ext (Nat.mod_eq_of_lt hn).symm]
  rfl

/-- Byte `b` of a word as the operations make it: shifted down, masked, 128 less, cut to eight bits. -/
theorem byte_made (w s : BitVec 32) (b : ℕ) (h : s.toNat = 8 * b) (hb : b < 4) :
    BitVec.setWidth 8 (IntOp.subi (IntOp.andi (IntOp.shrui .host w s) 255#32) 128#32) = Block.byte w b := by
  have e : IntOp.shrui .host w s = w >>> (8 * b) := by
    rw [← h]
    exact if_pos (by omega)
  rw [e]
  show BitVec.setWidth 8 (((w >>> (8 * b)) &&& 255#32) - 128#32) = BitVec.setWidth 8 (w >>> (8 * b)) - 128#8
  generalize w >>> (8 * b) = v
  apply BitVec.eq_of_toNat_eq
  have hv : (v &&& 255#32).toNat = v.toNat % 256 := by
    rw [BitVec.toNat_and]
    exact Nat.and_two_pow_sub_one_eq_mod v.toNat 8
  simp only [BitVec.toNat_setWidth, BitVec.toNat_sub, hv, BitVec.toNat_ofNat]
  omega

/-- The word that a plane's byte is read from. -/
theorem word_at (n : ℕ) (hn : n < 8) (k : Fin 1024) (x y : Fin 256) (hx : y = x) (h : (1024 * n + k : ℕ) / 1024 < 8)
    (h' : (1024 * n + k : ℕ) % 1024 < 1024) :
    W0 m ρ c (Proc.devRef .tc main_arg1) (ix3 ⟨(1024 * n + k : ℕ) / 1024, h⟩ ⟨(1024 * n + k : ℕ) % 1024, h'⟩ y) = words m c n k x := by
  subst hx
  rw [level_eq n hn k, show (⟨(1024 * n + k : ℕ) % 1024, h'⟩ : Fin 1024) = k from Fin.ext (by show (1024 * n + k : ℕ) % 1024 = k; omega)]
  rfl

/-- Its third operand is the bytes of the codewords' words, less 128, byte by byte side by side. -/
theorem plane_at (n : ℕ) (hn : n < 8) (k : Fin 1024) (b : Fin 4) (x : Fin 256) :
    V1 m ρ c main_v33 (ix2 ⟨1024 * n + k, by omega⟩ ⟨256 * b + x, by omega⟩) = Block.byte (words m c n k x) b := by
  show StableHlo.after hostOps0 (W0 m ρ c) (Proc.devRef .tc main_v33) (ix2 _ _) = _
  after_reads_at
  fin_cases b
  · rw [dif_pos (by show 256 * 0 + (x : ℕ) < 256; omega)]
    after_reads_at
    exact (byte_made _ 0#32 0 rfl (by decide)).trans
      (congrArg (Block.byte · 0) (word_at m ρ c n hn k x _ (Fin.ext (rfl)) _ _))
  · rw [dif_neg (by show ¬ 256 * 1 + (x : ℕ) < 256; omega), dif_pos (by show 256 * 1 + (x : ℕ) - 256 < 256; omega)]
    after_reads_at
    exact (byte_made _ 8#32 1 rfl (by decide)).trans
      (congrArg (Block.byte · 1) (word_at m ρ c n hn k x _ (Fin.ext (rfl)) _ _))
  · rw [dif_neg (by show ¬ 256 * 2 + (x : ℕ) < 256; omega), dif_neg (by show ¬ 256 * 2 + (x : ℕ) - 256 < 256; omega), dif_pos (by show 256 * 2 + (x : ℕ) - 256 - 256 < 256; omega)]
    after_reads_at
    exact (byte_made _ 16#32 2 rfl (by decide)).trans
      (congrArg (Block.byte · 2) (word_at m ρ c n hn k x _ (Fin.ext (by show 512 + (x : ℕ) - 256 - 256 = x; omega)) _ _))
  · rw [dif_neg (by show ¬ 256 * 3 + (x : ℕ) < 256; omega), dif_neg (by show ¬ 256 * 3 + (x : ℕ) - 256 < 256; omega), dif_neg (by show ¬ 256 * 3 + (x : ℕ) - 256 - 256 < 256; omega)]
    after_reads_at
    exact (byte_made _ 24#32 3 rfl (by decide)).trans
      (congrArg (Block.byte · 3) (word_at m ρ c n hn k x _ (Fin.ext (by show 768 + (x : ℕ) - 256 - 256 - 256 = x; omega)) _ _))

end Cert.Entry
-- ==== Proof.Region0.lean ====
/- What the first kernel's eleven result arrays hold: point `t` handles rows `768 t` on, each array's blocks tile it, and
   a block holds what BlockValue.lean says of those rows. -/
module

public import proofs.«01_k».proof.Proof.HostBefore
public import Idealize.ShloMosaic.Lib.Pipeline.ValueKit

@[expose] public section

set_option maxRecDepth 16384

noncomputable section

namespace Cert.Entry

open Cert.KernelIdeal Cert.KernelIdeal.Gen Idealize.ShloMosaic Idealize.SL.Sem
open Idealize.ShloMosaic.Pipeline (Dat)

variable (m : (ℓ : Loc nD τ sig) → Buf (Elt Ideal) ℓ) (ρ : Dev nD → PrngReg) (c : Dev nD)

/-- Row `i` of the block of point `t`. -/
def rowAt (t : Fin 6) (i : Fin 768) : Fin 4608 := ⟨768 * t + i, by omega⟩

/-- The windows' blocks: point `t` has row block `t`, and the codebooks whole. -/
theorem idx_in : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)
/-- And the outputs' blocks: point `t` has block `t` of each. -/
theorem idx_out : ∀ t : Fin cfg0.N, win0_5.index t = ![t.val, 0, 0] ∧ win0_6.index t = ![t.val, 0, 0] ∧ win0_7.index t = ![t.val, 0, 0]
    ∧ win0_8.index t = ![t.val, 0, 0] ∧ win0_9.index t = ![t.val, 0, 0] ∧ win0_10.index t = ![t.val, 0, 0]
    ∧ win0_11.index t = ![t.val, 0, 0] ∧ win0_12.index t = ![t.val, 0, 0] ∧ win0_13.index t = ![t.val, 0, 0]
    ∧ win0_14.index t = ![t.val, 0, 0] :=
  (by decide +kernel : ∀ t : Fin grid0.N, _)

/-- The four input blocks of point `t`. -/
theorem reads (t : Fin cfg0.N) : Block.Reads (iblk0 (V1 m ρ) c 0 t) (iblk0 (V1 m ρ) c 1 t) (iblk0 (V1 m ρ) c 2 t) (iblk0 (V1 m ρ) c 3 t)
    (fun i => rows m c (rowAt t i)) (words m c) where
  rows i x := by
    refine Eq.trans ?_ (rows_at m ρ c (rowAt t i) x)
    blk_ext! [iblk0, idx_in t, rowAt]
  book n hn k x := by
    refine Eq.trans ?_ (book_at m ρ c n hn k x)
    blk_ext! [iblk0, idx_in t]
  plane n hn k b x := by
    refine Eq.trans ?_ (plane_at m ρ c n hn k b x)
    blk_ext! [iblk0, idx_in t]
  square n hn k := by
    refine Eq.trans ?_ (square_at m ρ c n hn k)
    blk_ext! [iblk0, idx_in t]

/-- The codeword that row `i` picks at level `n`. -/
def pickAt (n : ℕ) (i : Fin 4608) : Fin 1024 := Rvq.pick (Rvq.books (words m c)) (rows m c i) n
/-- The quantised row `i`. -/
def quantAt (i : Fin 4608) (x : Fin 256) : EReal :=
  rows m c i x + (Rvq.qsum (Rvq.books (words m c)) (rows m c i) 8 x - rows m c i x)
/-- How many rows of block `t` pick codeword `k` at level `n`. -/
def countAt (t : Fin 6) (n : ℕ) (k : Fin 1024) : EReal :=
  ((Finset.univ.filter fun i : Fin 768 => pickAt m c n (rowAt t i) = k).card : EReal)
/-- The sum of squares of block `t`'s residual after level `n`. -/
def energyAt (t : Fin 6) (n : ℕ) : EReal :=
  ∑ i : Fin 768, Rvq.sq (Rvq.res (Rvq.books (words m c)) (rows m c (rowAt t i)) (n + 1))

/-- The arrays of these. -/
def quantArr : S4608x256.Idx → EReal := fun j => quantAt m c (j 0) (j 1)
/-- Level `n`'s indices, block by block. -/
def idxArr (n : ℕ) : S6x1x768.Idx → BitVec 32 := fun j => BitVec.ofNat 32 (pickAt m c n (rowAt (j 0) (j 2)))
/-- The counts, block by block. -/
def countArr : S6x8x1024.Idx → EReal := fun j => countAt m c (j 0) (j 1).val (j 2)
/-- The sums of squares, block by block. -/
def energyArr : S6x8x128.Idx → EReal := fun j => energyAt m c (j 0) (j 1).val

/-- The first array holds the quantised rows. -/
theorem arr_q : (dat0 (V1 m ρ) c).arrAt 4 cfg0.N = quantArr m c := by
  refine (dat0 (V1 m ρ) c).arrAt_eq_of_covers 4 _ (by decide +kernel) fun t hf y => ?_
  blk_simp
  rw [after0_4, Block.out_q]
  frame_out
  have h := reads m ρ c t
  refine Eq.trans ?_ (congrArg (quantArr m c) (show ix2 (rowAt t (y 0)) (y 1) = _ from by blk_ext [idx_in t, rowAt]))
  obtain ⟨i, x, rfl⟩ : ∃ (i : Fin 768) (x : Fin 256), y = ix2 i x := ⟨y 0, y 1, by blk_ext⟩
  refine (congrArg₂ (· + ·) (Block.res_at h 0 (by decide) i x)
    (congrArg₂ (· - ·) (Block.qsum_at h 8 (by decide) i x) (Block.res_at h 0 (by decide) i x)))

/-- A level's indices in a block, at an index. -/
theorem idx_block (t : Fin cfg0.N) (n : ℕ) (hn : n < 8) (y : S1x1x768.Idx) :
    shapeCast S1x1x768 (Block.idx (F := Ideal) (iblk0 (V1 m ρ) c 0 t) (iblk0 (V1 m ρ) c 1 t) (iblk0 (V1 m ρ) c 2 t) (iblk0 (V1 m ρ) c 3 t) n)
      shapeCasts_S768_S1x1x768 y = idxArr m c n (ix3 (show Fin 6 from t) 0 (y 2)) := by
  obtain ⟨i, rfl⟩ : ∃ i : Fin 768, y = ix3 0 0 i := ⟨y 2, by blk_ext⟩
  pointwise []
  exact Block.idx_at (reads m ρ c t) n hn i

/-- The main kernel's array of level 0's indices. -/
theorem arr_idx0 : (dat0 (V1 m ρ) c).arrAt 5 cfg0.N = idxArr m c 0 := by
  refine (dat0 (V1 m ρ) c).arrAt_eq_of_covers 5 _ (by decide +kernel) fun t hf y => ?_
  blk_simp
  rw [after0_5, Block.out_idx0]
  frame_out
  refine (idx_block m ρ c t 0 (by decide) y).trans (congrArg (idxArr m c 0) ?_)
  blk_ext [idx_out t]
/-- The main kernel's array of level 1's indices. -/
theorem arr_idx1 : (dat0 (V1 m ρ) c).arrAt 6 cfg0.N = idxArr m c 1 := by
  refine (dat0 (V1 m ρ) c).arrAt_eq_of_covers 6 _ (by decide +kernel) fun t hf y => ?_
  blk_simp
  rw [after0_6, Block.out_idx1]
  frame_out
  refine (idx_block m ρ c t 1 (by decide) y).trans (congrArg (idxArr m c 1) ?_)
  blk_ext [idx_out t]
/-- The main kernel's array of level 2's indices. -/
theorem arr_idx2 : (dat0 (V1 m ρ) c).arrAt 7 cfg0.N = idxArr m c 2 := by
  refine (dat0 (V1 m ρ) c).arrAt_eq_of_covers 7 _ (by decide +kernel) fun t hf y => ?_
  blk_simp
  rw [after0_7, Block.out_idx2]
  frame_out
  refine (idx_block m ρ c t 2 (by decide) y).trans (congrArg (idxArr m c 2) ?_)
  blk_ext [idx_out t]
/-- The main kernel's array of level 3's indices. -/
theorem arr_idx3 : (dat0 (V1 m ρ) c).arrAt 8 cfg0.N = idxArr m c 3 := by
  refine (dat0 (V1 m ρ) c).arrAt_eq_of_covers 8 _ (by decide +kernel) fun t hf y => ?_
  blk_simp
  rw [after0_8, Block.out_idx3]
  frame_out
  refine (idx_block m ρ c t 3 (by decide) y).trans (congrArg (idxArr m c 3) ?_)
  blk_ext [idx_out t]
/-- The main kernel's array of level 4's indices. -/
theorem arr_idx4 : (dat0 (V1 m ρ) c).arrAt 9 cfg0.N = idxArr m c 4 := by
  refine (dat0 (V1 m ρ) c).arrAt_eq_of_covers 9 _ (by decide +kernel) fun t hf y => ?_
  blk_simp
  rw [after0_9, Block.out_idx4]
  frame_out
  refine (idx_block m ρ c t 4 (by decide) y).trans (congrArg (idxArr m c 4) ?_)
  blk_ext [idx_out t]
/-- The main kernel's array of level 5's indices. -/
theorem arr_idx5 : (dat0 (V1 m ρ) c).arrAt 10 cfg0.N = idxArr m c 5 := by
  refine (dat0 (V1 m ρ) c).arrAt_eq_of_covers 10 _ (by decide +kernel) fun t hf y => ?_
  blk_simp
  rw [after0_10, Block.out_idx5]
  frame_out
  refine (idx_block m ρ c t 5 (by decide) y).trans (congrArg (idxArr m c 5) ?_)
  blk_ext [idx_out t]
/-- The main kernel's array of level 6's indices. -/
theorem arr_idx6 : (dat0 (V1 m ρ) c).arrAt 11 cfg0.N = idxArr m c 6 := by
  refine (dat0 (V1 m ρ) c).arrAt_eq_of_covers 11 _ (by decide +kernel) fun t hf y => ?_
  blk_simp
  rw [after0_11, Block.out_idx6]
  frame_out
  refine (idx_block m ρ c t 6 (by decide) y).trans (congrArg (idxArr m c 6) ?_)
  blk_ext [idx_out t]
/-- The main kernel's array of level 7's indices. -/
theorem arr_idx7 : (dat0 (V1 m ρ) c).arrAt 12 cfg0.N = idxArr m c 7 := by
  refine (dat0 (V1 m ρ) c).arrAt_eq_of_covers 12 _ (by decide +kernel) fun t hf y => ?_
  blk_simp
  rw [after0_12, Block.out_idx7]
  frame_out
  refine (idx_block m ρ c t 7 (by decide) y).trans (congrArg (idxArr m c 7) ?_)
  blk_ext [idx_out t]

/-- A level's histogram in a block, at an index. -/
theorem count_block (t : Fin cfg0.N) (n : ℕ) (hn : n < 8) (x : S1x1x1024.Idx) :
    Block.count (F := Ideal) (Block.hot (Block.idx (F := Ideal) (iblk0 (V1 m ρ) c 0 t) (iblk0 (V1 m ρ) c 1 t) (iblk0 (V1 m ρ) c 2 t)
      (iblk0 (V1 m ρ) c 3 t) n)) x = countArr m c (ix3 (show Fin 6 from t) ⟨n, hn⟩ (x 2)) := by
  obtain ⟨k, rfl⟩ : ∃ k : Fin 1024, x = ix3 0 0 k := ⟨x 2, by blk_ext⟩
  exact Block.hist_at (reads m ρ c t) n hn k

set_option maxHeartbeats 2000000 in
/-- The array of histograms. -/
theorem arr_count : (dat0 (V1 m ρ) c).arrAt 13 cfg0.N = countArr m c := by
  refine (dat0 (V1 m ρ) c).arrAt_eq_of_covers 13 _ (by decide +kernel) fun t hf y => ?_
  blk_simp
  rw [after0_13, Block.out_count]
  canon_tiles x h
  all_goals
    refine (count_block m ρ c t _ (by decide) x).trans (congrArg (countArr m c) ?_)
    blk_ext [idx_out t]

/-- A level's sum of squares in a block, at an index. -/
theorem energy_block (t : Fin cfg0.N) (n : ℕ) (hn : n < 8) (x : S1x1x128.Idx) :
    Block.total (F := Ideal) (Block.res (iblk0 (V1 m ρ) c 0 t) (iblk0 (V1 m ρ) c 1 t) (iblk0 (V1 m ρ) c 2 t)
      (iblk0 (V1 m ρ) c 3 t) (n + 1)) x = energyArr m c (ix3 (show Fin 6 from t) ⟨n, hn⟩ (x 2)) := by
  obtain ⟨l, rfl⟩ : ∃ l : Fin 128, x = ix3 0 0 l := ⟨x 2, by blk_ext⟩
  exact Block.energy_at (reads m ρ c t) (n + 1) hn l

set_option maxHeartbeats 2000000 in
/-- The array of sums of squares. -/
theorem arr_energy : (dat0 (V1 m ρ) c).arrAt 14 cfg0.N = energyArr m c := by
  refine (dat0 (V1 m ρ) c).arrAt_eq_of_covers 14 _ (by decide +kernel) fun t hf y => ?_
  blk_simp
  rw [after0_14, Block.out_total]
  canon_tiles x h
  all_goals
    refine (energy_block m ρ c t _ (by decide) x).trans (congrArg (energyArr m c) ?_)
    blk_ext [idx_out t]

end Cert.Entry
-- ==== Proof.Region1.lean ====
/- What the second kernel leaves: the commitment loss and the mean perplexity, in every lane of an 8×128 array, computed
   from the first kernel's histograms and sums of squares. -/
module

public import proofs.«01_k».proof.Proof.Region0

@[expose] public section

set_option maxRecDepth 16384

noncomputable section

namespace Cert.Entry

open Cert.KernelIdeal Cert.KernelIdeal.Gen Idealize.ShloMosaic Idealize.SL.Sem
open Idealize.ShloMosaic.Pipeline (Dat)

variable (m : (ℓ : Loc nD τ sig) → Buf (Elt Ideal) ℓ) (ρ : Dev nD → PrngReg) (c : Dev nD)

/-- The one point of the second kernel. -/
def point : Fin cfg1.N := ⟨0, by decide⟩

/-- The commitment loss. -/
def commit : EReal :=
  Ideal.div (∑ t : Fin 6, ∑ n : Fin 8, energyAt m c t n) (Ideal.ofBits .f32 0x49900000#32) * Ideal.ofBits .f32 0x3E800000#32

/-- How often codeword `k` is picked at level `n`, of the 4608 rows. -/
def prob (n : Fin 8) (k : Fin 1024) : EReal := Ideal.div (∑ t : Fin 6, countAt m c t n k) (Ideal.ofBits .f32 0x45900000#32)

/-- The mean perplexity. -/
def perplexity : EReal :=
  Ideal.div (∑ n : Fin 8, Ideal.exp (0 - ∑ k : Fin 1024, prob m c n k * Ideal.log (prob m c n k + Ideal.ofBits .f32 0x2EDBE6FF#32)))
    (Ideal.ofBits .f32 0x41000000#32)

/-- Every window of the second kernel is its whole array. -/
theorem idx_one : win1_0.index point = ![0, 0, 0] ∧ win1_1.index point = ![0, 0, 0] := by decide +kernel

/-- The first kernel's histograms are the second's first input. -/
theorem in_count (x : S6x8x1024.Idx) : iblk1 (V2 m ρ) c 0 point x = countArr m c x := by
  refine Eq.trans ?_ (congrFun ((W2_arr m ρ c 13).trans (arr_count m ρ c)) x)
  blk_ext! [iblk1, idx_one]

/-- Its second operand is the first kernel's sums of squares. -/
theorem in_energy (x : S6x8x128.Idx) : iblk1 (V2 m ρ) c 1 point x = energyArr m c x := by
  refine Eq.trans ?_ (congrFun ((W2_arr m ρ c 14).trans (arr_energy m ρ c)) x)
  blk_ext! [iblk1, idx_one]

/-- From the sums of squares it computes the commitment loss. -/
theorem pay_commit (x1 : Vec Ideal S6x8x128 .f32) (h : ∀ x, x1 x = energyArr m c x) (j : S8x128.Idx) : k1_pay3 (F := Ideal) x1 j = commit m c := by
  pointwise [k1_pay3]
  rw [Ideal.reduceAdd_total _ (by decide), sum_idx4]
  pointwise
  simp only [h, Finset.univ_unique, Finset.sum_singleton]
  rfl

/-- From the counts it computes the perplexity. -/
theorem pay_perplexity (x0 : Vec Ideal S6x8x1024 .f32) (h : ∀ x, x0 x = countArr m c x) (j : S8x128.Idx) : k1_pay2 (F := Ideal) x0 j = perplexity m c := by
  pointwise [k1_pay2, k1_pay1]
  simp only [h, Finset.univ_unique, Finset.sum_singleton]
  rfl

/-- Its array of the commitment loss. -/
theorem arr_commit : (dat1 (V2 m ρ) c).arrAt 3 cfg1.N = fun _ => commit m c := by
  refine (dat1 (V2 m ρ) c).arrAt_eq_of_after_last 3 point (by decide +kernel) _ fun j => ?_
  blk_simp
  rw [after1_3]
  frame_out
  exact pay_commit m c _ (in_energy m ρ c) _

/-- Its array of the perplexity. -/
theorem arr_perplexity : (dat1 (V2 m ρ) c).arrAt 4 cfg1.N = fun _ => perplexity m c := by
  refine (dat1 (V2 m ρ) c).arrAt_eq_of_after_last 4 point (by decide +kernel) _ fun j => ?_
  blk_simp
  rw [after1_4]
  frame_out
  exact pay_perplexity m c _ (in_count m ρ c) _

end Cert.Entry
-- ==== Proof.HostAfter.lean ====
/- What the kernel program's four results hold: the operations after its second kernel only rearrange the two kernels'
   outputs. -/
module

public import proofs.«01_k».proof.Proof.Region1

@[expose] public section

set_option maxRecDepth 16384

noncomputable section

namespace Cert.Entry

open Cert.KernelIdeal Cert.KernelIdeal.Gen Idealize.ShloMosaic Idealize.SL.Sem
open Idealize.ShloMosaic.Pipeline (arrRef)

variable (m : (ℓ : Loc nD τ sig) → Buf (Elt Ideal) ℓ) (ρ : Dev nD → PrngReg) (c : Dev nD)

/-- The second kernel leaves the first's row outputs alone. -/
theorem left_alone (w : Fin cfg0.W) (h : ∀ v : Fin cfg1.W, arrRef spec1 v = arrRef spec0 w → (cfg1.win v).isOut = false) :
    W3 m ρ c (Proc.devRef .tc (arrRef spec0 w)) = (dat0 (V1 m ρ) c).arrAt w cfg0.N :=
  (W3_of m ρ c _ h).trans (W2_arr m ρ c w)

/-- Entry `i % 768` of row block `i / 768` is row `i`. -/
theorem idx_row (n i : ℕ) (h : i < 4608) (h1 : i / 768 < 6) (h2 : i % 768 < 768) :
    idxArr m c n (ix3 ⟨i / 768, h1⟩ 0 ⟨i % 768, h2⟩) = BitVec.ofNat 32 (pickAt m c n ⟨i, h⟩) := by
  show BitVec.ofNat 32 (pickAt m c n (rowAt ⟨i / 768, h1⟩ ⟨i % 768, h2⟩)) = _
  rw [show rowAt ⟨i / 768, h1⟩ ⟨i % 768, h2⟩ = ⟨i, h⟩ from Fin.ext (Nat.div_add_mod i 768)]

/-- The quantised array holds, at block `b` and place `s`, the quantised row `576 b + s`. -/
theorem final_quant (b : Fin 8) (s : Fin 576) (x : Fin 256) :
    W4 m ρ c (Proc.devRef .tc main_v56) (ix3 b s x) = quantAt m c ⟨b * 576 + s, by omega⟩ x := by
  show StableHlo.after hostOps2 (W3 m ρ c) (Proc.devRef .tc main_v56) (ix3 b s x) = _
  after_reads_at
  exact congrFun ((left_alone m ρ c 4 (by decide)).trans (arr_q m ρ c)) (ix2 _ x)

/-- The array of indices holds row `576 b + s`'s picks. -/
theorem final_idx (b : Fin 8) (s : Fin 576) (n : Fin 8) :
    W4 m ρ c (Proc.devRef .tc main_v55) (ix3 b s n) = BitVec.ofNat 32 (pickAt m c n ⟨b * 576 + s, by omega⟩) := by
  show StableHlo.after hostOps2 (W3 m ρ c) (Proc.devRef .tc main_v55) (ix3 b s n) = _
  after_reads_at
  fin_cases n
  all_goals
    repeat first | rw [dif_pos (by decide)] | rw [dif_neg (by decide)]
    after_reads_at
  · exact (congrFun ((left_alone m ρ c 5 (by decide)).trans (arr_idx0 m ρ c)) _).trans (idx_row m c 0 _ _ _ _)
  · exact (congrFun ((left_alone m ρ c 6 (by decide)).trans (arr_idx1 m ρ c)) _).trans (idx_row m c 1 _ _ _ _)
  · exact (congrFun ((left_alone m ρ c 7 (by decide)).trans (arr_idx2 m ρ c)) _).trans (idx_row m c 2 _ _ _ _)
  · exact (congrFun ((left_alone m ρ c 8 (by decide)).trans (arr_idx3 m ρ c)) _).trans (idx_row m c 3 _ _ _ _)
  · exact (congrFun ((left_alone m ρ c 9 (by decide)).trans (arr_idx4 m ρ c)) _).trans (idx_row m c 4 _ _ _ _)
  · exact (congrFun ((left_alone m ρ c 10 (by decide)).trans (arr_idx5 m ρ c)) _).trans (idx_row m c 5 _ _ _ _)
  · exact (congrFun ((left_alone m ρ c 11 (by decide)).trans (arr_idx6 m ρ c)) _).trans (idx_row m c 6 _ _ _ _)
  · exact (congrFun ((left_alone m ρ c 12 (by decide)).trans (arr_idx7 m ρ c)) _).trans (idx_row m c 7 _ _ _ _)

/-- The operations after the kernels take one lane of each of the second's two splats. -/
theorem final_commit (i : S_.Idx) : W4 m ρ c (Proc.devRef .tc main_v58) i = commit m c := by
  show StableHlo.after hostOps2 (W3 m ρ c) (Proc.devRef .tc main_v58) i = _
  after_reads_at
  exact congrFun ((W3_arr m ρ c 3).trans (arr_commit m ρ c)) (ix2 0 0)

/-- The perplexity is the second kernel's. -/
theorem final_perplexity (i : S_.Idx) : W4 m ρ c (Proc.devRef .tc main_v60) i = perplexity m c := by
  show StableHlo.after hostOps2 (W3 m ρ c) (Proc.devRef .tc main_v60) i = _
  after_reads_at
  exact congrFun ((W3_arr m ρ c 4).trans (arr_perplexity m ρ c)) (ix2 0 0)

end Cert.Entry
-- ==== Proof.RefLevel.lean ====
/- One level of the reference, as functions of the residual rows and of the level's codewords, and what each holds at an
   index: the distances, the nearest codeword's index, the codeword taken, and how often each codeword is picked. -/
module

public import proofs.«01_k».proof.Proof.Rows
public import proofs.«01_k».proof.Proof.Gen.ReferenceIdeal
public import Idealize.ShloMosaic.Lib.Routing.Ops

@[expose] public section

set_option maxRecDepth 16384

noncomputable section

namespace Cert.Level

open Cert.ReferenceIdeal Cert.ReferenceIdeal.Gen Idealize.ShloMosaic

/-- The distances of all rows to all codewords. -/
def dists (r : FVec Ideal S4608x256 .f32) (cb : FVec Ideal S1024x256 .f32) : FVec Ideal S4608x1024 .f32 :=
  addf (subf (broadcastInDim S4608x1024 ![0, 1] bcast_S4608x1_S4608x1024_0_1 (broadcastInDim S4608x1 ![0] bcast_S4608_S4608x1_0
      (Host.reduceAdd (mulf r r) (constant S_ .f32 0x00000000#32) reducesTo_S4608x256_S4608_d1 h_S_)))
    (mulf (broadcastInDim S4608x1024 ![] bcast_S_S4608x1024 (constant S_ .f32 0x40000000#32))
      (Host.dotGeneral dot_S4608x256_S256x1024_S4608x1024_1_0_0_1_n_n none r
        (transpose S256x1024 [1, 0] cb transposes_S1024x256_S256x1024_1_0))))
    (broadcastInDim S4608x1024 ![0, 1] bcast_S1x1024_S4608x1024_0_1 (broadcastInDim S1x1024 ![1] bcast_S1024_S1x1024_1
      (Host.reduceAdd (mulf cb cb) (constant S_ .f32 0x00000000#32) reducesTo_S1024x256_S1024_d1 h_S_)))

/-- The distances of row `i` to codeword `k` are the quantiser's. -/
theorem dists_at (r : FVec Ideal S4608x256 .f32) (cb : FVec Ideal S1024x256 .f32) (R : Fin 4608 → Rvq.Row) (b : Rvq.Book)
    (hr : ∀ i x, r (ix2 i x) = R i x) (hb : ∀ k x, cb (ix2 k x) = b k x) (i : Fin 4608) (k : Fin 1024) :
    dists r cb (ix2 i k) = Rvq.dist (R i) b k := by
  pointwise [dists]
  simp only [hr, hb]
  rfl

/-- Each row's least distance. -/
def least (d : FVec Ideal S4608x1024 .f32) : FVec Ideal S4608 .f32 :=
  Host.reduce FloatOps.minimumf d (constant S_ .f32 0x7F800000#32) reducesTo_S4608x1024_S4608_d1 h_S_

/-- The first index at which each row's least distance is attained. -/
def nearest (d : FVec Ideal S4608x1024 .f32) : IVec S4608 32 :=
  Host.reduce IntOp.minsi (select (cmpf .oeq d (broadcastInDim S4608x1024 ![0, 1] bcast_S4608x1_S4608x1024_0_1
      (broadcastInDim S4608x1 ![0] bcast_S4608_S4608x1_0 (least d))))
    (broadcastInDim S4608x1024 ![0, 1] bcast_S1x1024_S4608x1024_0_1 (broadcastInDim S1x1024 ![1] bcast_S1024_S1x1024_1 (iotaInDim S1024 32 0)))
    (broadcastInDim S4608x1024 ![] bcast_S_S4608x1024 (id (constantI S_ 32 1024#32))))
    (constantI S_ 32 2147483647#32) reducesTo_S4608x1024_S4608_d1 h_S_

/-- A row's least distance is attained at its first nearest codeword. -/
theorem least_at (d : FVec Ideal S4608x1024 .f32) (i : Fin 4608) : least d (ix1 i) = d (ix2 i (Rvq.first fun k => d (ix2 i k))) := by
  unfold least
  pointwise
  refine le_antisymm ((Finset.fold_min_le _).mpr (.inr ⟨_, Finset.mem_univ _, le_rfl⟩))
    ((Finset.le_fold_min _).mpr ⟨?_, fun k _ => Rvq.first_le (fun k => d (ix2 i k)) k⟩)
  rw [show Ideal.ofBits .f32 0x7F800000#32 = ⊤ by simp [Ideal.ofBits, Ideal.ieee]]
  exact le_top

/-- The least of some words, read signed, is the least of their readings. -/
theorem fold_signed {ι : Type*} (s : Finset ι) (f : ι → BitVec 32) (b : BitVec 32) :
    (s.fold IntOp.minsi b f).toInt = s.fold min b.toInt fun i => (f i).toInt := by
  refine (Finset.fold_hom (op' := min) fun x y => ?_).symm
  unfold IntOp.minsi
  rw [BitVec.slt_eq_decide]
  simp only [decide_eq_true_eq]
  split_ifs with h
  · exact (min_eq_left h.le).symm
  · exact (min_eq_right (not_lt.mp h)).symm

/-- A codeword's index, read signed, is that number. -/
theorem signed (n : Fin 1024) : (BitVec.ofNat 32 n).toInt = (n : ℕ) := by
  revert n
  decide +kernel

/-- The index found is the first nearest codeword's. -/
theorem nearest_at (d : FVec Ideal S4608x1024 .f32) (i : Fin 4608) : nearest d (ix1 i) = BitVec.ofNat 32 (Rvq.first fun k => d (ix2 i k)) := by
  unfold nearest
  pointwise
  have hl := least_at d i
  generalize hn : (Rvq.first fun k => d (ix2 i k)) = n at hl ⊢
  refine BitVec.eq_of_toInt_eq ?_
  rw [fold_signed, signed]
  refine le_antisymm ((Finset.fold_min_le _).mpr (.inr ⟨n, Finset.mem_univ _, ?_⟩)) ((Finset.le_fold_min _).mpr ⟨?_, fun k _ => ?_⟩)
  · rw [if_pos hl.symm, signed]
  · rw [show (2147483647#32).toInt = 2147483647 from rfl]
    omega
  · split_ifs with hk
    · rw [signed]
      have : n ≤ k := hn ▸ Rvq.first_min (fun k => d (ix2 i k)) k fun k' => by
        rw [hk, hl, ← hn]
        exact Rvq.first_le (fun k => d (ix2 i k)) k'
      exact_mod_cast this
    · show ((n : ℕ) : ℤ) ≤ 1024
      omega

/-- A codeword's index is not negative. -/
theorem not_neg (n : Fin 1024) : IntOp.cmpi .slt (BitVec.ofNat 32 n) 0#32 = 0#1 := by
  revert n
  decide +kernel
/-- It is not below zero. -/
theorem not_low (n : Fin 1024) : IntOp.cmpi .sge (BitVec.ofNat 32 n) 0#32 = 1#1 := by
  revert n
  decide +kernel
/-- It is not above 1023. -/
theorem not_high (n : Fin 1024) : IntOp.cmpi .sle (BitVec.ofNat 32 n) 1023#32 = 1#1 := by
  revert n
  decide +kernel
/-- Raised to zero at least, it stays. -/
theorem raised (n : Fin 1024) : IntOp.maxsi 0#32 (BitVec.ofNat 32 n) = BitVec.ofNat 32 n := by
  revert n
  decide +kernel

/-- The column of indices, a negative one wrapped around the 1024 codewords. -/
def column (v : IVec S4608 32) : IVec S4608x1 32 :=
  broadcastInDim S4608x1 ![0] bcast_S4608_S4608x1_0 (select (cmpi .slt v (broadcastInDim S4608 ![] bcast_S_S4608 (constantI S_ 32 0#32)))
    (addi v (broadcastInDim S4608 ![] bcast_S_S4608 (constantI S_ 32 1024#32))) v)

/-- As a column, the indices in range are unchanged. -/
theorem column_at (v : IVec S4608 32) (i : Fin 4608) (n : Fin 1024) (h : v (ix1 i) = BitVec.ofNat 32 n) :
    column v (ix2 i 0) = BitVec.ofNat 32 n := by
  pointwise [column]
  rw [h]
  rw [not_neg]
  rfl

/-- The codewords at a column of indices, an index out of range giving the filling value. -/
def taken (cb : FVec Ideal S1024x256 .f32) (v : IVec S4608x1 32) : FVec Ideal S4608x256 .f32 :=
  select (broadcastInDim S4608x256 ![0] bcast_S4608_S4608x256_0 (Host.reduce IntOp.andi
      (andi (cmpi .sge v (broadcastInDim S4608x1 ![] bcast_S_S4608x1 (constantI S_ 32 0#32)))
        (cmpi .sle v (broadcastInDim S4608x1 ![0, 1] bcast_S1x1_S4608x1_0_1 (broadcastInDim S1x1 ![1] bcast_S1_S1x1_1 (constantI S1 32 1023#32)))))
      (constantI S_ 1 1#1) reducesTo_S4608x1_S4608_d1 h_S_))
    (Host.gather gather_S1024x256_S4608x1_S4608x256_1_0_n_n_0_1_1256 cb v)
    (broadcastInDim S4608x256 ![] bcast_S_S4608x256 (constant S_ .f32 0x7FC00000#32))

/-- The row taken at index `n` is codeword `n`. -/
theorem taken_at (cb : FVec Ideal S1024x256 .f32) (v : IVec S4608x1 32) (i : Fin 4608) (n : Fin 1024)
    (h : v (ix2 i 0) = BitVec.ofNat 32 n) (x : Fin 256) : taken cb v (ix2 i x) = cb (ix2 n x) := by
  unfold taken
  pointwise
  have g : Host.gather gather_S1024x256_S4608x1_S4608x256_1_0_n_n_0_1_1256 cb v (ix2 i x) = cb (ix2 n x) :=
    Routing.gather_row _ rfl rfl rfl rfl rfl cb v i x n h (by decide)
  rw [g, Finset.univ_unique, Finset.fold_singleton]
  show Scalar.select (IntOp.andi (IntOp.andi (IntOp.cmpi .sge (v (ix2 i 0)) 0#32) (IntOp.cmpi .sle (v (ix2 i 0)) 1023#32)) 1#1) _ _ = _
  rw [h, not_low, not_high]
  rfl

/-- The indices, a negative one raised to zero. -/
def clipped (v : IVec S4608 32) : IVec S4608 32 := maxsi (broadcastInDim S4608 ![] bcast_S_S4608 (id (constantI S_ 32 0#32))) v

/-- Clipping leaves an index in range alone. -/
theorem clipped_at (v : IVec S4608 32) (i : Fin 4608) (n : Fin 1024) (h : v (ix1 i) = BitVec.ofNat 32 n) :
    clipped v (ix1 i) = BitVec.ofNat 32 n := by
  show IntOp.maxsi 0#32 (v (ix1 i)) = _
  rw [h, raised]

/-- How often each codeword stands in a column of indices. -/
def hist (v : IVec S4608x1 32) : IVec S1024 32 :=
  Host.scatter scatter_S1024_S4608x1_S4608_n_0_0_1 IntOp.addi (broadcastInDim S1024 ![] bcast_S_S1024 (constantI S_ 32 0#32)) v
    (broadcastInDim S4608 ![] bcast_S_S4608 (constantI S_ 32 1#32))

/-- Where row `i`'s unit lands: at its index. -/
theorem lands (v : IVec S4608x1 32) (p : Fin 4608 → Fin 1024) (h : ∀ i, v (ix2 i 0) = BitVec.ofNat 32 (p i)) (i : Fin 4608) (k : Fin 1024) :
    scatter_S1024_S4608x1_S4608_n_0_0_1.resultIdx? (ix1 i) v = some (ix1 k) ↔ p i = k := by
  have hs : scatter_S1024_S4608x1_S4608_n_0_0_1.start (ix1 i) v 0 = (v (ix2 i 0)).toInt := by
    unfold ScatterDims.start
    rw [dif_pos (by decide)]
    congr 2
    funext a
    fin_cases a <;> rfl
  have hw : scatter_S1024_S4608x1_S4608_n_0_0_1.window (ix1 i) 0 = 0 := rfl
  rw [h, signed] at hs
  have hp := (p i).isLt
  have ok : ∀ a, 0 ≤ scatter_S1024_S4608x1_S4608_n_0_0_1.start (ix1 i) v a + (scatter_S1024_S4608x1_S4608_n_0_0_1.window (ix1 i) a : ℤ)
      ∧ scatter_S1024_S4608x1_S4608_n_0_0_1.start (ix1 i) v a + (scatter_S1024_S4608x1_S4608_n_0_0_1.window (ix1 i) a : ℤ) < (S1024.size a : ℤ) := by
    intro a
    fin_cases a
    show 0 ≤ scatter_S1024_S4608x1_S4608_n_0_0_1.start (ix1 i) v 0 + (scatter_S1024_S4608x1_S4608_n_0_0_1.window (ix1 i) 0 : ℤ)
      ∧ scatter_S1024_S4608x1_S4608_n_0_0_1.start (ix1 i) v 0 + (scatter_S1024_S4608x1_S4608_n_0_0_1.window (ix1 i) 0 : ℤ) < (1024 : ℤ)
    rw [hs, hw]
    omega
  unfold ScatterDims.resultIdx?
  rw [dif_pos ok, Option.some_inj]
  have e : (scatter_S1024_S4608x1_S4608_n_0_0_1.start (ix1 i) v 0 + (scatter_S1024_S4608x1_S4608_n_0_0_1.window (ix1 i) 0 : ℤ)).toNat = p i := by
    rw [hs, hw]
    omega
  constructor
  · intro g
    exact Fin.ext (e.symm.trans (congrArg Fin.val (congrFun g 0)))
  · rintro rfl
    funext a
    fin_cases a
    exact Fin.ext e

/-- Counting along the list of a finite range is counting its elements. -/
theorem count_list {N M : ℕ} (h : N = M) (P : Fin M → Prop) [DecidablePred P] :
    (List.finRange N).countP (fun n => decide (P (n.cast h))) = (Finset.univ.filter P).card := by
  subst h
  rw [List.countP_eq_length_filter, Fin.univ_def]
  rfl

/-- A codeword's entry of the histogram is the number of rows that pick it. -/
theorem hist_at (v : IVec S4608x1 32) (p : Fin 4608 → Fin 1024) (h : ∀ i, v (ix2 i 0) = BitVec.ofNat 32 (p i)) (k : Fin 1024) :
    hist v (ix1 k) = BitVec.ofNat 32 (Finset.univ.filter fun i => p i = k).card := by
  unfold hist Host.scatter
  refine (Routing.foldl_count _ (ix1 k) (fun n => decide (p (n.cast (Routing.numel1 4608)) = k)) (fun r n => ?_) _ _ 0 rfl).trans ?_
  · have e1 : S4608.rowMajor.symm n = ix1 (n.cast (Routing.numel1 4608)) := Routing.symm1 n
    have hi := lands v p h (n.cast (Routing.numel1 4608)) k
    rw [e1]
    generalize n.cast (Routing.numel1 4608) = i at hi ⊢
    by_cases e : p i = k
    · rw [hi.mpr e]
      simp only [e, decide_true, if_true]
      rfl
    · rw [decide_eq_false e]
      generalize scatter_S1024_S4608x1_S4608_n_0_0_1.resultIdx? (ix1 i) v = o at hi ⊢
      cases o with
      | none => rfl
      | some j => exact if_neg fun g => e (hi.mp (congrArg some g.symm))
  · rw [Nat.zero_add]
    exact congrArg (BitVec.ofNat 32) (count_list (Routing.numel1 4608) fun i => p i = k)

end Cert.Level
-- ==== Proof.RefStep.lean ====
/- What a level of the reference computes when its residual rows and its codewords are the quantiser's: the quantiser's
   next residual rows, its picks, and the level's shares of the commitment loss and of the perplexity. -/
module

public import proofs.«01_k».proof.Proof.RefLevel

@[expose] public section

set_option maxRecDepth 16384

noncomputable section

namespace Cert.Level

open Cert.ReferenceIdeal Cert.ReferenceIdeal.Gen Idealize.ShloMosaic

/-- The indices that a level picks. -/
def picks (r : FVec Ideal S4608x256 .f32) (cb : FVec Ideal S1024x256 .f32) : IVec S4608 32 := nearest (dists r cb)
/-- The codewords that it takes. -/
def quant (r : FVec Ideal S4608x256 .f32) (cb : FVec Ideal S1024x256 .f32) : FVec Ideal S4608x256 .f32 := taken cb (column (picks r cb))
/-- The rows that are left. -/
def next (r : FVec Ideal S4608x256 .f32) (cb : FVec Ideal S1024x256 .f32) : FVec Ideal S4608x256 .f32 := subf r (quant r cb)
/-- How often each codeword is picked, of the 4608 rows. -/
def probs (r : FVec Ideal S4608x256 .f32) (cb : FVec Ideal S1024x256 .f32) : FVec Ideal S1024 .f32 :=
  Host.divf (sitofp .f32 (hist (column (clipped (picks r cb))))) (broadcastInDim S1024 ![] bcast_S_S1024 (constant S_ .f32 0x45900000#32))
/-- The mean square of what is left. -/
def loss (e : FVec Ideal S4608x256 .f32) : FVec Ideal S_ .f32 :=
  Host.divf (Host.reduceAdd (mulf e e) (constant S_ .f32 0x00000000#32) reducesTo_S4608x256_S_d0_1 h_S_) (constant S_ .f32 0x49900000#32)
/-- The perplexity of the probabilities `p`. -/
def perp (p : FVec Ideal S1024 .f32) : FVec Ideal S_ .f32 :=
  Host.exp (Host.negf (Host.reduceAdd (mulf p (Host.log (addf p (broadcastInDim S1024 ![] bcast_S_S1024 (constant S_ .f32 0x2EDBE6FF#32)))))
    (constant S_ .f32 0x00000000#32) reducesTo_S1024_S_d0 h_S_))

/-- The rows `r` and the codewords `cb` are the quantiser's before level `n`. -/
structure At (B : ℕ → Rvq.Book) (X : Fin 4608 → Rvq.Row) (n : ℕ) (r : FVec Ideal S4608x256 .f32) (cb : FVec Ideal S1024x256 .f32) : Prop where
  row : ∀ i x, r (ix2 i x) = Rvq.res B (X i) n x
  book : ∀ k x, cb (ix2 k x) = B n k x

variable {B : ℕ → Rvq.Book} {X : Fin 4608 → Rvq.Row} {n : ℕ} {r : FVec Ideal S4608x256 .f32} {cb : FVec Ideal S1024x256 .f32}

/-- The level picks the quantiser's codewords. -/
theorem At.picks (h : At B X n r cb) (i : Fin 4608) : picks r cb (ix1 i) = BitVec.ofNat 32 (Rvq.pick B (X i) n) := by
  refine (nearest_at (dists r cb) i).trans ?_
  rw [show (fun k => dists r cb (ix2 i k)) = Rvq.dist (Rvq.res B (X i) n) (B n) from
    funext fun k => dists_at r cb (fun i => Rvq.res B (X i) n) (B n) h.row h.book i k]
  rfl

/-- It takes them. -/
theorem At.quant (h : At B X n r cb) (i : Fin 4608) (x : Fin 256) : quant r cb (ix2 i x) = B n (Rvq.pick B (X i) n) x :=
  (taken_at cb _ i _ (column_at _ i _ (h.picks i)) x).trans (h.book _ x)

/-- It leaves the quantiser's next rows. -/
theorem At.next (h : At B X n r cb) (i : Fin 4608) (x : Fin 256) : next r cb (ix2 i x) = Rvq.res B (X i) (n + 1) x := by
  show r (ix2 i x) - Level.quant r cb (ix2 i x) = _
  rw [h.row, h.quant, Rvq.res_succ]

/-- The word of a count reads, as a signed integer, as the count. -/
theorem cast_word (q : ℕ) (hq : q ≤ 4608) : (FloatOps.sitofp .f32 (BitVec.ofNat 32 q) : Ideal .f32) = ((q : ℕ) : EReal) := by
  show (((BitVec.ofNat 32 q).toInt : ℝ) : EReal) = _
  rw [BitVec.toInt_eq_toNat_of_lt (by rw [BitVec.toNat_ofNat]; omega), BitVec.toNat_ofNat, Nat.mod_eq_of_lt (by omega)]
  simp

/-- Its probabilities are the shares of the rows that pick each codeword. -/
theorem At.probs (h : At B X n r cb) (k : Fin 1024) : probs r cb (ix1 k)
    = Ideal.div (((Finset.univ.filter fun i => Rvq.pick B (X i) n = k).card : ℕ) : EReal) (Ideal.ofBits .f32 0x45900000#32) := by
  have hh := hist_at (column (clipped (Level.picks r cb))) (fun i => Rvq.pick B (X i) n)
    (fun i => column_at _ i _ (clipped_at _ i _ (h.picks i))) k
  pointwise [Level.probs]
  rw [hh, cast_word _ ((Finset.card_filter_le _ _).trans (by simp))]

/-- Its loss is the mean square of the quantiser's next rows. -/
theorem At.loss (h : At B X n r cb) (j : S_.Idx) : Level.loss (Level.next r cb) j
    = Ideal.div (∑ i : Fin 4608, Rvq.sq (Rvq.res B (X i) (n + 1))) (Ideal.ofBits .f32 0x49900000#32) := by
  have e := h.next
  generalize Level.next r cb = d at e ⊢
  pointwise [Level.loss]
  simp only [e, Rvq.sq]

/-- The perplexity of `p` is the exponential of its entropy. -/
theorem perp_at (p : FVec Ideal S1024 .f32) (j : S_.Idx) : perp p j
    = Ideal.exp (- ∑ k : Fin 1024, p (ix1 k) * Ideal.log (p (ix1 k) + Ideal.ofBits .f32 0x2EDBE6FF#32)) := by
  pointwise [perp]

end Cert.Level
-- ==== Proof.RefValue.lean ====
/- The reference's eight levels, and its four results at an index, in the quantiser's terms. -/
module

public import proofs.«01_k».proof.Proof.RefStep
public import proofs.«01_k».proof.Proof.Gen.ReferenceIdeal.Run

@[expose] public section

set_option maxRecDepth 16384

noncomputable section

namespace Cert.RefValue

open Cert.ReferenceIdeal Cert.ReferenceIdeal.Gen Cert.ReferenceIdeal.Value Idealize.ShloMosaic Idealize.ShloMosaic.TcCoe Idealize.ShloMosaic.StableHlo

variable (V0 : Valuation τ sig (Elt Ideal))

/-- The codebooks that the launch memory's words spell. -/
def B : ℕ → Rvq.Book := Rvq.books (Rvq.wordsOf (V0 (Proc.devRef .tc main_arg1)))
/-- The launch memory's rows. -/
def X : Fin 4608 → Rvq.Row := Rvq.rowsOf (V0 (Proc.devRef .tc main_arg0))

/-- The rows the first level starts from are the argument's. -/
theorem rows_at (i : Fin 4608) (x : Fin 256) : res_main_v1 V0 (ix2 i x) = X V0 i x := by
  pointwise [res_main_v1]
  rfl

/-- The codebook that level 0 reads is the words' one. -/
theorem book0 (k : Fin 1024) (x : Fin 256) : res_main_v4 V0 (ix2 k x) = B V0 0 k x := by
  pointwise [res_main_v4, res_main_v0]
  rfl

/-- The codebook that level 1 reads is the words' one. -/
theorem book1 (k : Fin 1024) (x : Fin 256) : res_main_v57 V0 (ix2 k x) = B V0 1 k x := by
  pointwise [res_main_v57, res_main_v0]
  rfl

/-- The codebook that level 2 reads is the words' one. -/
theorem book2 (k : Fin 1024) (x : Fin 256) : res_main_v110 V0 (ix2 k x) = B V0 2 k x := by
  pointwise [res_main_v110, res_main_v0]
  rfl

/-- The codebook that level 3 reads is the words' one. -/
theorem book3 (k : Fin 1024) (x : Fin 256) : res_main_v163 V0 (ix2 k x) = B V0 3 k x := by
  pointwise [res_main_v163, res_main_v0]
  rfl

/-- The codebook that level 4 reads is the words' one. -/
theorem book4 (k : Fin 1024) (x : Fin 256) : res_main_v216 V0 (ix2 k x) = B V0 4 k x := by
  pointwise [res_main_v216, res_main_v0]
  rfl

/-- The codebook that level 5 reads is the words' one. -/
theorem book5 (k : Fin 1024) (x : Fin 256) : res_main_v269 V0 (ix2 k x) = B V0 5 k x := by
  pointwise [res_main_v269, res_main_v0]
  rfl

/-- The codebook that level 6 reads is the words' one. -/
theorem book6 (k : Fin 1024) (x : Fin 256) : res_main_v322 V0 (ix2 k x) = B V0 6 k x := by
  pointwise [res_main_v322, res_main_v0]
  rfl

/-- The codebook that level 7 reads is the words' one. -/
theorem book7 (k : Fin 1024) (x : Fin 256) : res_main_v375 V0 (ix2 k x) = B V0 7 k x := by
  pointwise [res_main_v375, res_main_v0]
  rfl

/-- The rows and the codebook before level 0 are the quantiser's. -/
theorem level0 : Level.At (B V0) (X V0) 0 (res_main_v1 V0) (res_main_v4 V0) := ⟨rows_at V0, book0 V0⟩

/-- The rows and the codebook before level 1 are the quantiser's. -/
theorem level1 : Level.At (B V0) (X V0) 1 (res_main_v55 V0) (res_main_v57 V0) := ⟨(level0 V0).next, book1 V0⟩

/-- The rows and the codebook before level 2 are the quantiser's. -/
theorem level2 : Level.At (B V0) (X V0) 2 (res_main_v108 V0) (res_main_v110 V0) := ⟨(level1 V0).next, book2 V0⟩

/-- The rows and the codebook before level 3 are the quantiser's. -/
theorem level3 : Level.At (B V0) (X V0) 3 (res_main_v161 V0) (res_main_v163 V0) := ⟨(level2 V0).next, book3 V0⟩

/-- The rows and the codebook before level 4 are the quantiser's. -/
theorem level4 : Level.At (B V0) (X V0) 4 (res_main_v214 V0) (res_main_v216 V0) := ⟨(level3 V0).next, book4 V0⟩

/-- The rows and the codebook before level 5 are the quantiser's. -/
theorem level5 : Level.At (B V0) (X V0) 5 (res_main_v267 V0) (res_main_v269 V0) := ⟨(level4 V0).next, book5 V0⟩

/-- The rows and the codebook before level 6 are the quantiser's. -/
theorem level6 : Level.At (B V0) (X V0) 6 (res_main_v320 V0) (res_main_v322 V0) := ⟨(level5 V0).next, book6 V0⟩

/-- The rows and the codebook before level 7 are the quantiser's. -/
theorem level7 : Level.At (B V0) (X V0) 7 (res_main_v373 V0) (res_main_v375 V0) := ⟨(level6 V0).next, book7 V0⟩

/-- Eight arrays added in order onto the first. -/
def eight {s : Shape} (z a₀ a₁ a₂ a₃ a₄ a₅ a₆ a₇ : FVec Ideal s .f32) : FVec Ideal s .f32 :=
  addf (addf (addf (addf (addf (addf (addf (addf z a₀) a₁) a₂) a₃) a₄) a₅) a₆) a₇

/-- The quantised array, as the reference's operations compose it. -/
def quantOut : FVec Ideal S8x576x256 .f32 :=
  addf (V0 (Proc.devRef .tc main_arg0)) (subf (shapeCast _ (eight (broadcastInDim S4608x256 ![] bcast_S_S4608x256 (constant S_ .f32 0x00000000#32))
    (res_main_v27 V0) (res_main_v80 V0) (res_main_v133 V0) (res_main_v186 V0) (res_main_v239 V0) (res_main_v292 V0) (res_main_v345 V0) (res_main_v398 V0)) shapeCasts_S4608x256_S8x576x256)
    (V0 (Proc.devRef .tc main_arg0)))

/-- One level's indices as a column of the array of indices. -/
def side (v : IVec S4608 32) : IVec S4608x1 32 := broadcastInDim S4608x1 ![0] bcast_S4608_S4608x1_0 v

/-- The array of indices, as the reference's operations compose it. -/
def idxOut : IVec S8x576x8 32 :=
  shapeCast _ (concatenate S4608x8 1 [⟨S4608x1, side (res_main_v26 V0)⟩, ⟨S4608x1, side (res_main_v79 V0)⟩, ⟨S4608x1, side (res_main_v132 V0)⟩, ⟨S4608x1, side (res_main_v185 V0)⟩, ⟨S4608x1, side (res_main_v238 V0)⟩, ⟨S4608x1, side (res_main_v291 V0)⟩, ⟨S4608x1, side (res_main_v344 V0)⟩, ⟨S4608x1, side (res_main_v397 V0)⟩]
    concatenates_S4608x1_S4608x1_S4608x1_S4608x1_S4608x1_S4608x1_S4608x1_S4608x1_S4608x8_d1) shapeCasts_S4608x8_S8x576x8

/-- The commitment loss, as the reference's operations compose it. -/
def commitOut : FVec Ideal S_ .f32 :=
  mulf (eight (constant S_ .f32 0x00000000#32)
    (Level.loss (res_main_v28 V0)) (Level.loss (res_main_v81 V0)) (Level.loss (res_main_v134 V0)) (Level.loss (res_main_v187 V0)) (Level.loss (res_main_v240 V0)) (Level.loss (res_main_v293 V0)) (Level.loss (res_main_v346 V0)) (Level.loss (res_main_v399 V0))) (constant S_ .f32 0x3E800000#32)

/-- The perplexity, as the reference's operations compose it. -/
def perpOut : FVec Ideal S_ .f32 :=
  Host.divf (eight (constant S_ .f32 0x00000000#32)
    (Level.perp (res_main_v45 V0)) (Level.perp (res_main_v98 V0)) (Level.perp (res_main_v151 V0)) (Level.perp (res_main_v204 V0)) (Level.perp (res_main_v257 V0)) (Level.perp (res_main_v310 V0)) (Level.perp (res_main_v363 V0)) (Level.perp (res_main_v416 V0))) (constant S_ .f32 0x41000000#32)

/-- How many rows pick codeword `k` at level `n`. -/
def count (n : Fin 8) (k : Fin 1024) : ℕ := (Finset.univ.filter fun i => Rvq.pick (B V0) (X V0 i) n = k).card

/-- Level `n`'s mean square of what is left. -/
def lossAt (n : ℕ) : EReal := Ideal.div (∑ i : Fin 4608, Rvq.sq (Rvq.res (B V0) (X V0 i) (n + 1))) (Ideal.ofBits .f32 0x49900000#32)

/-- The share of the rows that pick codeword `k` at level `n`. -/
def probAt (n : Fin 8) (k : Fin 1024) : EReal := Ideal.div ((count V0 n k : ℕ) : EReal) (Ideal.ofBits .f32 0x45900000#32)

/-- The argument's rows, read back at a place of the array. -/
theorem row_at (b : Fin 8) (s : Fin 576) (x : Fin 256) : X V0 ⟨b * 576 + s, by omega⟩ x = V0 (Proc.devRef .tc main_arg0) (ix3 b s x) := by
  unfold X Rvq.rowsOf
  congr 2 <;> exact Fin.ext (by simp only []; omega)

/-- A column of indices at a row. -/
theorem side_at (v : IVec S4608 32) (i : Fin 4608) (j : Fin 1) : side v (ix2 i j) = v (ix1 i) := by
  pointwise [side]

/-- The quantised array at an index. -/
theorem quantOut_at (b : Fin 8) (s : Fin 576) (x : Fin 256) : quantOut V0 (ix3 b s x)
    = X V0 ⟨b * 576 + s, by omega⟩ x + (Rvq.qsum (B V0) (X V0 ⟨b * 576 + s, by omega⟩) 8 x - X V0 ⟨b * 576 + s, by omega⟩ x) := by
  have hr := row_at V0 b s x
  pointwise [quantOut, eight]
  generalize (⟨b * 576 + s, by omega⟩ : Fin 4608) = i at hr ⊢
  rw [show res_main_v27 V0 (ix2 i x) = _ from (level0 V0).quant i x, show res_main_v80 V0 (ix2 i x) = _ from (level1 V0).quant i x, show res_main_v133 V0 (ix2 i x) = _ from (level2 V0).quant i x, show res_main_v186 V0 (ix2 i x) = _ from (level3 V0).quant i x, show res_main_v239 V0 (ix2 i x) = _ from (level4 V0).quant i x, show res_main_v292 V0 (ix2 i x) = _ from (level5 V0).quant i x, show res_main_v345 V0 (ix2 i x) = _ from (level6 V0).quant i x, show res_main_v398 V0 (ix2 i x) = _ from (level7 V0).quant i x]
  simp only [Rvq.qsum, zero_add, hr]

/-- The array of indices at an index. -/
theorem idxOut_at (b : Fin 8) (s : Fin 576) (n : Fin 8) : idxOut V0 (ix3 b s n)
    = BitVec.ofNat 32 (Rvq.pick (B V0) (X V0 ⟨b * 576 + s, by omega⟩) n) := by
  pointwise [idxOut]
  have h0 : ∀ j, side (res_main_v26 V0) (ix2 ⟨b * 576 + s, by omega⟩ j) = _ := fun j => (side_at _ _ j).trans ((level0 V0).picks _)
  generalize side (res_main_v26 V0) = a0 at h0 ⊢
  have h1 : ∀ j, side (res_main_v79 V0) (ix2 ⟨b * 576 + s, by omega⟩ j) = _ := fun j => (side_at _ _ j).trans ((level1 V0).picks _)
  generalize side (res_main_v79 V0) = a1 at h1 ⊢
  have h2 : ∀ j, side (res_main_v132 V0) (ix2 ⟨b * 576 + s, by omega⟩ j) = _ := fun j => (side_at _ _ j).trans ((level2 V0).picks _)
  generalize side (res_main_v132 V0) = a2 at h2 ⊢
  have h3 : ∀ j, side (res_main_v185 V0) (ix2 ⟨b * 576 + s, by omega⟩ j) = _ := fun j => (side_at _ _ j).trans ((level3 V0).picks _)
  generalize side (res_main_v185 V0) = a3 at h3 ⊢
  have h4 : ∀ j, side (res_main_v238 V0) (ix2 ⟨b * 576 + s, by omega⟩ j) = _ := fun j => (side_at _ _ j).trans ((level4 V0).picks _)
  generalize side (res_main_v238 V0) = a4 at h4 ⊢
  have h5 : ∀ j, side (res_main_v291 V0) (ix2 ⟨b * 576 + s, by omega⟩ j) = _ := fun j => (side_at _ _ j).trans ((level5 V0).picks _)
  generalize side (res_main_v291 V0) = a5 at h5 ⊢
  have h6 : ∀ j, side (res_main_v344 V0) (ix2 ⟨b * 576 + s, by omega⟩ j) = _ := fun j => (side_at _ _ j).trans ((level6 V0).picks _)
  generalize side (res_main_v344 V0) = a6 at h6 ⊢
  have h7 : ∀ j, side (res_main_v397 V0) (ix2 ⟨b * 576 + s, by omega⟩ j) = _ := fun j => (side_at _ _ j).trans ((level7 V0).picks _)
  generalize side (res_main_v397 V0) = a7 at h7 ⊢
  simp only [h0, h1, h2, h3, h4, h5, h6, h7]
  fin_cases n <;> rfl

/-- The commitment loss. -/
theorem commitOut_at (j : S_.Idx) : commitOut V0 j = (∑ n : Fin 8, lossAt V0 n) * Ideal.ofBits .f32 0x3E800000#32 := by
  have hz : eight (constant S_ .f32 0x00000000#32) (Level.loss (res_main_v28 V0)) (Level.loss (res_main_v81 V0)) (Level.loss (res_main_v134 V0)) (Level.loss (res_main_v187 V0)) (Level.loss (res_main_v240 V0)) (Level.loss (res_main_v293 V0)) (Level.loss (res_main_v346 V0)) (Level.loss (res_main_v399 V0)) j = ∑ n : Fin 8, lossAt V0 n := by
    pointwise [eight]
    rw [show Level.loss (res_main_v28 V0) j = lossAt V0 0 from (level0 V0).loss j, show Level.loss (res_main_v81 V0) j = lossAt V0 1 from (level1 V0).loss j, show Level.loss (res_main_v134 V0) j = lossAt V0 2 from (level2 V0).loss j, show Level.loss (res_main_v187 V0) j = lossAt V0 3 from (level3 V0).loss j, show Level.loss (res_main_v240 V0) j = lossAt V0 4 from (level4 V0).loss j, show Level.loss (res_main_v293 V0) j = lossAt V0 5 from (level5 V0).loss j, show Level.loss (res_main_v346 V0) j = lossAt V0 6 from (level6 V0).loss j, show Level.loss (res_main_v399 V0) j = lossAt V0 7 from (level7 V0).loss j]
    simp [Fin.sum_univ_succ, add_assoc]
  exact congrArg (· * Ideal.ofBits .f32 0x3E800000#32) hz

/-- Level `n`'s perplexity. -/
def perpAt (n : Fin 8) : EReal :=
  Ideal.exp (-∑ k : Fin 1024, probAt V0 n k * Ideal.log (probAt V0 n k + Ideal.ofBits .f32 0x2EDBE6FF#32))

/-- A level's perplexity, its probabilities given. -/
theorem perp_of (n : Fin 8) (p : FVec Ideal S1024 .f32) (h : ∀ k, p (ix1 k) = probAt V0 n k) (j : S_.Idx) : Level.perp p j = perpAt V0 n := by
  rw [Level.perp_at, perpAt]
  simp only [h]

/-- The perplexity. -/
theorem perpOut_at (j : S_.Idx) : perpOut V0 j = Ideal.div (∑ n : Fin 8, perpAt V0 n) (Ideal.ofBits .f32 0x41000000#32) := by
  have hz : eight (constant S_ .f32 0x00000000#32) (Level.perp (res_main_v45 V0)) (Level.perp (res_main_v98 V0)) (Level.perp (res_main_v151 V0)) (Level.perp (res_main_v204 V0)) (Level.perp (res_main_v257 V0)) (Level.perp (res_main_v310 V0)) (Level.perp (res_main_v363 V0)) (Level.perp (res_main_v416 V0)) j = ∑ n : Fin 8, perpAt V0 n := by
    pointwise [eight]
    rw [show Level.perp (res_main_v45 V0) j = perpAt V0 0 from perp_of V0 0 _ (level0 V0).probs j, show Level.perp (res_main_v98 V0) j = perpAt V0 1 from perp_of V0 1 _ (level1 V0).probs j, show Level.perp (res_main_v151 V0) j = perpAt V0 2 from perp_of V0 2 _ (level2 V0).probs j, show Level.perp (res_main_v204 V0) j = perpAt V0 3 from perp_of V0 3 _ (level3 V0).probs j, show Level.perp (res_main_v257 V0) j = perpAt V0 4 from perp_of V0 4 _ (level4 V0).probs j, show Level.perp (res_main_v310 V0) j = perpAt V0 5 from perp_of V0 5 _ (level5 V0).probs j, show Level.perp (res_main_v363 V0) j = perpAt V0 6 from perp_of V0 6 _ (level6 V0).probs j, show Level.perp (res_main_v416 V0) j = perpAt V0 7 from perp_of V0 7 _ (level7 V0).probs j]
    simp [Fin.sum_univ_succ, add_assoc]
  exact congrArg (Ideal.div · (Ideal.ofBits .f32 0x41000000#32)) hz

end Cert.RefValue
-- ==== Proof.Equation.lean ====
/- The kernel program's results and the reference's are the same arrays: the kernel counts and sums by blocks of rows what
   the reference counts and sums over all rows, and divides a sum of sums of squares where the reference adds quotients. -/
module

public import proofs.«01_k».proof.Proof.HostAfter
public import proofs.«01_k».proof.Proof.RefValue

@[expose] public section

set_option maxRecDepth 16384

noncomputable section

namespace Cert.Equation

open Idealize.ShloMosaic Cert.Entry Cert.RefValue
open Cert.KernelIdeal Cert.KernelIdeal.Gen

/-- A sum over the rows by blocks of 768 is the sum over all rows. -/
theorem sum_blocks {M : Type} [AddCommMonoid M] (f : Fin 4608 → M) : ∑ t : Fin 6, ∑ i : Fin 768, f (rowAt t i) = ∑ i, f i := by
  rw [← Fintype.sum_prod_type' fun t i => f (rowAt t i)]
  exact Fintype.sum_equiv (finProdFinEquiv (m := 6) (n := 768)) _ _ fun p => congrArg f (Fin.ext (Nat.add_comm _ _))

/-- So is a count. -/
theorem count_blocks (f : Fin 4608 → Fin 1024) (k : Fin 1024) :
    ∑ t : Fin 6, (((Finset.univ.filter fun i : Fin 768 => f (rowAt t i) = k).card : ℕ) : EReal)
      = ((Finset.univ.filter fun i => f i = k).card : ℕ) := by
  simp only [Finset.card_filter]
  rw [← sum_blocks fun i => if f i = k then 1 else 0, Nat.cast_sum]

/-- The number of entries that the commitment loss averages over. -/
theorem entries_eq : Ideal.ofBits .f32 0x49900000#32 = ((1179648 : ℝ) : EReal) := by
  simp [Ideal.ofBits, Ideal.ieee]
  rw [← EReal.coe_mul]
  norm_num

/-- A quotient of a sum of nonnegative terms by the number of entries is the sum of the quotients. -/
theorem div_sum (a : ℕ → EReal) (h : ∀ n, 0 ≤ a n) : ∑ n : Fin 8, Ideal.div (a n) (Ideal.ofBits .f32 0x49900000#32)
    = Ideal.div (∑ n : Fin 8, a n) (Ideal.ofBits .f32 0x49900000#32) := by
  have h0 : ((1179648 : ℝ) : EReal) ≠ 0 := by norm_num
  simp only [entries_eq, Ideal.div, if_neg h0]
  simp only [Fin.sum_univ_eight]
  iterate 7 rw [EReal.right_distrib_of_nonneg (by repeat first | exact h _ | apply add_nonneg) (h _)]

/-- Two arrays of three axes agree at an index when they agree at every triple. -/
theorem at_ix3 {α : Type} {p q r : ℕ} (f g : (⟨3, ![p, q, r]⟩ : Shape).Idx → α) (h : ∀ i j k, f (ix3 i j k) = g (ix3 i j k)) (j) :
    f j = g j := by
  rw [show j = ix3 (j 0) (j 1) (j 2) from funext fun d => by fin_cases d <;> rfl]
  exact h _ _ _

variable (m : (ℓ : Loc nD τ sig) → Buf (Elt Ideal) ℓ) (ρ : Dev nD → PrngReg) (c : Dev nD)
  (V0 : Valuation Cert.ReferenceIdeal.τ Cert.ReferenceIdeal.sig (Elt Ideal))
  (hX : X V0 = rows m c) (hB : B V0 = Rvq.books (words m c))

include hX hB

/-- The two programs' quantised arrays are the same. -/
theorem quant_eq : quantOut V0 = W4 m ρ c (Proc.devRef .tc main_v56) := by
  funext j
  refine at_ix3 _ _ (fun b s x => (quantOut_at V0 b s x).trans (Eq.trans ?_ (final_quant m ρ c b s x).symm)) j
  rw [hX, hB]
  rfl

/-- So are their indices. -/
theorem idx_eq : idxOut V0 = W4 m ρ c (Proc.devRef .tc main_v55) := by
  funext j
  refine at_ix3 _ _ (fun b s n => (idxOut_at V0 b s n).trans (Eq.trans ?_ (final_idx m ρ c b s n).symm)) j
  rw [hX, hB]
  rfl

/-- So are their commitment losses. -/
theorem commit_eq : commitOut V0 = W4 m ρ c (Proc.devRef .tc main_v58) := by
  funext j
  refine (commitOut_at V0 j).trans (Eq.trans ?_ (final_commit m ρ c j).symm)
  unfold lossAt commit energyAt
  rw [hX, hB, Finset.sum_comm,
    div_sum (fun n => ∑ i : Fin 4608, Rvq.sq (Rvq.res (Rvq.books (words m c)) (rows m c i) (n + 1))) fun n =>
      Finset.sum_nonneg fun i _ => Rvq.sq_nonneg _]
  exact congrArg (fun z => Ideal.div z _ * _) (Finset.sum_congr rfl fun n _ =>
    (sum_blocks fun i => Rvq.sq (Rvq.res (Rvq.books (words m c)) (rows m c i) (n + 1))).symm)

/-- So are their perplexities. -/
theorem perp_eq : perpOut V0 = W4 m ρ c (Proc.devRef .tc main_v60) := by
  funext j
  refine (perpOut_at V0 j).trans (Eq.trans ?_ (final_perplexity m ρ c j).symm)
  have hp : ∀ n k, probAt V0 n k = prob m c n k := fun n k => by
    unfold probAt prob countAt RefValue.count pickAt
    rw [hX, hB, count_blocks fun i => Rvq.pick (Rvq.books (words m c)) (rows m c i) n]
  simp only [perpAt, perplexity, hp, zero_sub]

end Cert.Equation
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.Pre_no_tie
public import proofs.«01_k».proof.Proof.KernelRun
public import proofs.«01_k».proof.Proof.Equation
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Entry Cert.KernelIdeal.Gen

/-- The arguments at the end of the kernel program's run, over any float values, are those it began with. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) (c : Dev Cert.KernelIdeal.nD) (s : MemSt Cert.KernelIdeal.nD Cert.KernelIdeal.τ Cert.KernelIdeal.sig (Elt F))
    (h : ∀ b ∈ Pipeline.ucRefs Cert.KernelIdeal.τ Cert.KernelIdeal.sig, s.mem ((c : Thread Cert.KernelIdeal.nD Cert.KernelIdeal.τ).1, b) = W4 m ρ c b) :
    s.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)
      ∧ s.mem ((c.tc : Thread Cert.KernelIdeal.nD Cert.KernelIdeal.τ).loc Cert.KernelIdeal.main_arg1)
        = m ((c.tc : Thread Cert.KernelIdeal.nD Cert.KernelIdeal.τ).loc Cert.KernelIdeal.main_arg1) :=
  ⟨(h _ (mem_uc Cert.KernelIdeal.main_arg0 (by decide))).trans (W4_main_arg0 m ρ c),
    (h _ (mem_uc Cert.KernelIdeal.main_arg1 (by decide))).trans (W4_main_arg1 m ρ c)⟩

/-- The kernel program runs, its arguments are left alone, and every semaphore counter ends at zero. -/
theorem frame_kernel : Cert.quiescent_Kernel := fun m ρ _ => Cert.Kernel.Gen.frame m ρ

/-- So it does from inputs without a tie. -/
theorem frame_kernel_no_tie : Cert.quiescent_Kernel_pre_no_tie := fun m ρ _ => frame_kernel m ρ trivial

/-- So does its ideal copy. -/
theorem frame_ideal : Cert.quiescent_KernelIdeal := fun m ρ _ =>
  (θ_run Cert.KernelIdeal.defs _ _).mono (fun r h => ⟨fun c => args_kept m ρ c r.2 (h.1 c), h.2⟩) (run m ρ)

/-- So does the reference, which declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- So it does from inputs without a tie. -/
theorem frame_reference_no_tie : Cert.quiescent_ReferenceIdeal_pre_no_tie := fun m ρ _ => frame_reference m ρ trivial

/-- From the same arguments, the ideal copy and the reference end with the same quantised array, indices, commitment loss
    and perplexity. -/
theorem same_results : Cert.algebraic_KernelIdeal_ReferenceIdeal := fun m ρ m' ρ' _ hm => by
  have hX : ∀ c : Dev Cert.KernelIdeal.nD, RefValue.X (StableHlo.launchContents m' c) = rows m c := fun c => congrArg Rvq.rowsOf (hm c).1
  have hB : ∀ c : Dev Cert.KernelIdeal.nD, RefValue.B (StableHlo.launchContents m' c) = Rvq.books (words m c) := fun c =>
    congrArg (fun w => Rvq.books (Rvq.wordsOf w)) (hm c).2
  refine ⟨fun c => W4 m ρ c (Proc.devRef .tc Cert.KernelIdeal.main_v56), fun c => W4 m ρ c (Proc.devRef .tc Cert.KernelIdeal.main_v55),
    fun c => W4 m ρ c (Proc.devRef .tc Cert.KernelIdeal.main_v58), fun c => W4 m ρ c (Proc.devRef .tc Cert.KernelIdeal.main_v60),
    (θ_run Cert.KernelIdeal.defs _ _).mono (fun r h c => ?_) (run (F := Ideal) m ρ),
    (θ_run Cert.ReferenceIdeal.defs _ _).mono (fun r h c => ?_) (Cert.ReferenceIdeal.Value.run (F := Ideal) m' ρ')⟩
  · exact ⟨h.1 c _ (mem_uc Cert.KernelIdeal.main_v56 (by decide)), h.1 c _ (mem_uc Cert.KernelIdeal.main_v55 (by decide)),
      h.1 c _ (mem_uc Cert.KernelIdeal.main_v58 (by decide)), h.1 c _ (mem_uc Cert.KernelIdeal.main_v60 (by decide)),
      args_kept m ρ c r.2 (h.1 c)⟩
  · exact ⟨(h c).1.trans (Equation.quant_eq m ρ c _ (hX c) (hB c)), (h c).2.1.trans (Equation.idx_eq m ρ c _ (hX c) (hB c)),
      (h c).2.2.1.trans (Equation.commit_eq m ρ c _ (hX c) (hB c)), (h c).2.2.2.1.trans (Equation.perp_eq m ρ c _ (hX c) (hB c)),
      (h c).2.2.2.2⟩

/-- Everything claimed. -/
theorem claim : Cert.Claim := ⟨Cert.Kernel.Gen.facts, Cert.KernelIdeal.Gen.facts, Cert.ReferenceIdeal.Gen.facts, Cert.Pre_no_tie.Gen.facts,
  frame_kernel, frame_kernel_no_tie, frame_ideal, frame_reference, frame_reference_no_tie, trivial, same_results⟩

end Cert.Proof

end
